-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Quantise (m : (ℓ : Loc Cert.Quantise.nD Cert.Quantise.τ Cert.Quantise.sig) → Buf (Elt Bits) ℓ) : Prop :=
  True

def Pre_QuantiseIdeal (m : (ℓ : Loc Cert.QuantiseIdeal.nD Cert.QuantiseIdeal.τ Cert.QuantiseIdeal.sig) → Buf (Elt Ideal) ℓ) : Prop :=
  True

def Pre_QuantiseReferenceIdeal (m : (ℓ : Loc Cert.QuantiseReferenceIdeal.nD Cert.QuantiseReferenceIdeal.τ Cert.QuantiseReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Quantise [hQuantise : Cert.Quantise.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0))
      ∧ r.2.sem = fun _ => 0)

def quiescent_QuantiseIdeal [hQuantiseIdeal : Cert.QuantiseIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0))
      ∧ r.2.sem = fun _ => 0)

def quiescent_QuantiseReferenceIdeal [hQuantiseReferenceIdeal : Cert.QuantiseReferenceIdeal.Facts] : Prop :=
  ∀ (m : (ℓ : Loc Cert.QuantiseReferenceIdeal.nD Cert.QuantiseReferenceIdeal.τ Cert.QuantiseReferenceIdeal.sig) → Buf (Elt Ideal) ℓ) (g : Dev Cert.QuantiseReferenceIdeal.nD → PrngReg), Pre_QuantiseReferenceIdeal m →
    θ_run (Cert.QuantiseReferenceIdeal.defs (F := Ideal)) (onTc (τ := Cert.QuantiseReferenceIdeal.τ) (Cert.QuantiseReferenceIdeal.main (F := Ideal))) ⟨m, fun _ => 0, g⟩ (fun r => (∀ c : Dev Cert.QuantiseReferenceIdeal.nD,
      r.2.mem ((c.tc : Thread Cert.QuantiseReferenceIdeal.nD Cert.QuantiseReferenceIdeal.τ).loc Cert.QuantiseReferenceIdeal.main_arg0) = m ((c.tc : Thread Cert.QuantiseReferenceIdeal.nD Cert.QuantiseReferenceIdeal.τ).loc Cert.QuantiseReferenceIdeal.main_arg0))
      ∧ r.2.sem = fun _ => 0)

def preserves_Kernel_KernelIdeal : Prop :=
  IdealRules.bf16_pair.BufferStatement Cert.KernelIdeal.S56x2x128 Cert.KernelIdeal.S56x1x128
  ∧ IdealRules.bf16_pair.PackStatement Cert.KernelIdeal.S56x128
  ∧ IdealRules.bf16_pair.Statement Cert.KernelIdeal.S56x2x128 Cert.KernelIdeal.S56x1x128
  ∧ IdealRules.bf16_pair.Statement Cert.KernelIdeal.S1x2x128 Cert.KernelIdeal.S1x1x128
  ∧ IdealRules.bf16_pair.Statement Cert.KernelIdeal.S2x128 Cert.KernelIdeal.S1x128
  ∧ IdealRules.bf16_pair.PackStatement Cert.KernelIdeal.S128x128
  ∧ IdealRules.bf16_pair.Statement Cert.KernelIdeal.S256x128 Cert.KernelIdeal.S128x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Quantise_QuantiseIdeal : Prop :=
  True

def algebraic_QuantiseIdeal_QuantiseReferenceIdeal [hQuantiseIdeal : Cert.QuantiseIdeal.Facts] [hQuantiseReferenceIdeal : Cert.QuantiseReferenceIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg)
    (m' : (ℓ : Loc Cert.QuantiseReferenceIdeal.nD Cert.QuantiseReferenceIdeal.τ Cert.QuantiseReferenceIdeal.sig) → Buf (Elt Ideal) ℓ) (g' : Dev Cert.QuantiseReferenceIdeal.nD → PrngReg), Pre_QuantiseIdeal m →
    (∀ c : Dev Cert.QuantiseIdeal.nD,
      m' ((c.tc : Thread Cert.QuantiseReferenceIdeal.nD Cert.QuantiseReferenceIdeal.τ).loc Cert.QuantiseReferenceIdeal.main_arg0) = m ((c.tc : Thread Cert.QuantiseIdeal.nD Cert.QuantiseIdeal.τ).loc Cert.QuantiseIdeal.main_arg0)) →
    ∃ (v0 : (c : Dev Cert.QuantiseIdeal.nD) → Buf (Elt Ideal) ((c.tc : Thread Cert.QuantiseIdeal.nD Cert.QuantiseIdeal.τ).loc Cert.QuantiseIdeal.main_v1_0)) (v1 : (c : Dev Cert.QuantiseIdeal.nD) → Buf (Elt Ideal) ((c.tc : Thread Cert.QuantiseIdeal.nD Cert.QuantiseIdeal.τ).loc Cert.QuantiseIdeal.main_v1_1)) (v2 : (c : Dev Cert.QuantiseIdeal.nD) → Buf (Elt Ideal) ((c.tc : Thread Cert.QuantiseIdeal.nD Cert.QuantiseIdeal.τ).loc Cert.QuantiseIdeal.main_v1_2)),
      θ_run (Cert.QuantiseIdeal.defs (F := Ideal)) (onTc (τ := Cert.QuantiseIdeal.τ) (Cert.QuantiseIdeal.main (F := Ideal))) ⟨m, fun _ => 0, g⟩ (fun r => ∀ c : Dev Cert.QuantiseIdeal.nD,
          r.2.mem ((c.tc : Thread Cert.QuantiseIdeal.nD Cert.QuantiseIdeal.τ).loc Cert.QuantiseIdeal.main_v1_0) = v0 c
          ∧ r.2.mem ((c.tc : Thread Cert.QuantiseIdeal.nD Cert.QuantiseIdeal.τ).loc Cert.QuantiseIdeal.main_v1_1) = v1 c
          ∧ r.2.mem ((c.tc : Thread Cert.QuantiseIdeal.nD Cert.QuantiseIdeal.τ).loc Cert.QuantiseIdeal.main_v1_2) = v2 c
          ∧ r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0))
      ∧ θ_run (Cert.QuantiseReferenceIdeal.defs (F := Ideal)) (onTc (τ := Cert.QuantiseReferenceIdeal.τ) (Cert.QuantiseReferenceIdeal.main (F := Ideal))) ⟨m', fun _ => 0, g'⟩ (fun r => ∀ c : Dev Cert.QuantiseReferenceIdeal.nD,
          r.2.mem ((c.tc : Thread Cert.QuantiseReferenceIdeal.nD Cert.QuantiseReferenceIdeal.τ).loc Cert.QuantiseReferenceIdeal.main_v14) = v0 c
          ∧ r.2.mem ((c.tc : Thread Cert.QuantiseReferenceIdeal.nD Cert.QuantiseReferenceIdeal.τ).loc Cert.QuantiseReferenceIdeal.main_v16) = v1 c
          ∧ r.2.mem ((c.tc : Thread Cert.QuantiseReferenceIdeal.nD Cert.QuantiseReferenceIdeal.τ).loc Cert.QuantiseReferenceIdeal.main_v17) = v2 c
          ∧ r.2.mem ((c.tc : Thread Cert.QuantiseReferenceIdeal.nD Cert.QuantiseReferenceIdeal.τ).loc Cert.QuantiseReferenceIdeal.main_arg0) = m' ((c.tc : Thread Cert.QuantiseReferenceIdeal.nD Cert.QuantiseReferenceIdeal.τ).loc Cert.QuantiseReferenceIdeal.main_arg0))

def Claim : Prop :=
  ∃ (hKernel : Cert.Kernel.Facts) (hKernelIdeal : Cert.KernelIdeal.Facts) (hReferenceIdeal : Cert.ReferenceIdeal.Facts) (hQuantise : Cert.Quantise.Facts) (hQuantiseIdeal : Cert.QuantiseIdeal.Facts) (hQuantiseReferenceIdeal : Cert.QuantiseReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Quantise (hQuantise := hQuantise)
    ∧ quiescent_QuantiseIdeal (hQuantiseIdeal := hQuantiseIdeal)
    ∧ quiescent_QuantiseReferenceIdeal (hQuantiseReferenceIdeal := hQuantiseReferenceIdeal)
    ∧ preserves_Kernel_KernelIdeal
    ∧ algebraic_KernelIdeal_ReferenceIdeal (hKernelIdeal := hKernelIdeal) (hReferenceIdeal := hReferenceIdeal)
    ∧ preserves_Quantise_QuantiseIdeal
    ∧ algebraic_QuantiseIdeal_QuantiseReferenceIdeal (hQuantiseIdeal := hQuantiseIdeal) (hQuantiseReferenceIdeal := hQuantiseReferenceIdeal)
-- ==== Kernel.lean ====
abbrev S1920x14336 : Shape := ⟨2, ![1920, 14336]⟩
abbrev S7168x4096 : Shape := ⟨2, ![7168, 4096]⟩
abbrev S56x256x2 : Shape := ⟨3, ![56, 256, 2]⟩
abbrev S56 : Shape := ⟨1, ![56]⟩
abbrev S1920 : Shape := ⟨1, ![1920]⟩
abbrev S4096 : Shape := ⟨1, ![4096]⟩
abbrev S1920x1 : Shape := ⟨2, ![1920, 1]⟩
abbrev S1920x128 : Shape := ⟨2, ![1920, 128]⟩
abbrev S2x56x256 : Shape := ⟨3, ![2, 56, 256]⟩
abbrev S56x1 : Shape := ⟨2, ![56, 1]⟩
abbrev S1x4096 : Shape := ⟨2, ![1, 4096]⟩
abbrev S1920x4096 : Shape := ⟨2, ![1920, 4096]⟩
abbrev S7168x512 : Shape := ⟨2, ![7168, 512]⟩
abbrev S1x512 : Shape := ⟨2, ![1, 512]⟩
abbrev S1920x512 : Shape := ⟨2, ![1920, 512]⟩
abbrev S56x128 : Shape := ⟨2, ![56, 128]⟩
abbrev S2048x512 : Shape := ⟨2, ![2048, 512]⟩
abbrev S1x56x128 : Shape := ⟨3, ![1, 56, 128]⟩
abbrev S1x128 : Shape := ⟨2, ![1, 128]⟩
abbrev S128x128 : Shape := ⟨2, ![128, 128]⟩
abbrev S128x128x1 : Shape := ⟨3, ![128, 128, 1]⟩
abbrev S256x128 : Shape := ⟨2, ![256, 128]⟩
abbrev S1920x2048 : Shape := ⟨2, ![1920, 2048]⟩

abbrev nBuf : Space → Nat
  | .hbm => 12
  | .vmem => 14
  | .smem => 0
  | _ => 0

abbrev bufTy : (tb : Table) → Fin (tcTables nBuf tb) → BufTy
  | .hbm, ⟨0, _⟩ => ⟨S1920x14336, .i8⟩
  | .hbm, ⟨1, _⟩ => ⟨S7168x4096, .i8⟩
  | .hbm, ⟨2, _⟩ => ⟨S56x256x2, .i8⟩
  | .hbm, ⟨3, _⟩ => ⟨S56, .bf16⟩
  | .hbm, ⟨4, _⟩ => ⟨S1920, .f32⟩
  | .hbm, ⟨5, _⟩ => ⟨S4096, .f32⟩
  | .hbm, ⟨6, _⟩ => ⟨S1920x1, .f32⟩
  | .hbm, ⟨7, _⟩ => ⟨S1920x128, .f32⟩
  | .hbm, ⟨8, _⟩ => ⟨S2x56x256, .i8⟩
  | .hbm, ⟨9, _⟩ => ⟨S56x1, .bf16⟩
  | .hbm, ⟨10, _⟩ => ⟨S1x4096, .f32⟩
  | .hbm, ⟨11, _⟩ => ⟨S1920x4096, .bf16⟩
  | .local _ .vmem, ⟨0, _⟩ => ⟨S1920x14336, .i8⟩
  | .local _ .vmem, ⟨1, _⟩ => ⟨S7168x512, .i8⟩
  | .local _ .vmem, ⟨2, _⟩ => ⟨S7168x512, .i8⟩
  | .local _ .vmem, ⟨3, _⟩ => ⟨S2x56x256, .i8⟩
  | .local _ .vmem, ⟨4, _⟩ => ⟨S56x1, .bf16⟩
  | .local _ .vmem, ⟨5, _⟩ => ⟨S1920x128, .f32⟩
  | .local _ .vmem, ⟨6, _⟩ => ⟨S1x512, .f32⟩
  | .local _ .vmem, ⟨7, _⟩ => ⟨S1x512, .f32⟩
  | .local _ .vmem, ⟨8, _⟩ => ⟨S1920x512, .bf16⟩
  | .local _ .vmem, ⟨9, _⟩ => ⟨S1920x512, .bf16⟩
  | .local _ .vmem, ⟨10, _⟩ => ⟨S56x128, .i32⟩
  | .local _ .vmem, ⟨11, _⟩ => ⟨S56x128, .i32⟩
  | .local _ .vmem, ⟨12, _⟩ => ⟨S2048x512, .bf16⟩
  | .local _ .vmem, ⟨13, _⟩ => ⟨S1920x512, .f32⟩
  | _, _ => ⟨S1920x14336, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [BitOps F]

abbrev grid0 : Pipeline.Grid := ⟨1, ![8], ![false]⟩

@[reducible] def k0_t1_loop : Scf.Loop 32 :=
  let c0_i32_2 : BitVec 32 := 0#32
  let c7_i32 : BitVec 32 := 7#32
  let v7 : BitVec 32 := Scalar.addi c0_i32_2 c7_i32
  let c1_i32 : BitVec 32 := 1#32
  ⟨c0_i32_2, v7, c1_i32⟩
def k0_off1 (k0_t1 : Fin k0_t1_loop.trips) (c0_i32_33 : BitVec 32) : Fin 2 → Nat :=
  let c0_i32_2 : BitVec 32 := 0#32
  let c1_i32 : BitVec 32 := 1#32
  let arg12 : BitVec 32 := Scf.iv c0_i32_2 c1_i32 k0_t1
  let c8_i32 : BitVec 32 := 8#32
  let v48 : BitVec 32 := Scalar.muli arg12 c8_i32
  let v49 : BitVec 32 := Scalar.addi v48 c0_i32_33
  let v50 : Index := Scalar.indexCast v49
  let c0_34 : Index := 0#32
  ![v50.toNat, 0]
def k0_mult1 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32 : BitVec 32 := 8#32
  let v48 : BitVec 32 := Scalar.muli arg12 c8_i32
  let c0_i32_33 : BitVec 32 := 0#32
  let v49 : BitVec 32 := Scalar.addi v48 c0_i32_33
  let c128_i32 : BitVec 32 := 128#32
  let v74 : BitVec 32 := Scalar.muli v49 c128_i32
  v74
def k0_off2 (k0_t1 : Fin k0_t1_loop.trips) (c0_i32_33 : BitVec 32) : Fin 2 → Nat :=
  let c0_i32_2 : BitVec 32 := 0#32
  let c1_i32 : BitVec 32 := 1#32
  let arg12 : BitVec 32 := Scf.iv c0_i32_2 c1_i32 k0_t1
  let c8_i32 : BitVec 32 := 8#32
  let v48 : BitVec 32 := Scalar.muli arg12 c8_i32
  let v49 : BitVec 32 := Scalar.addi v48 c0_i32_33
  let c128_i32 : BitVec 32 := 128#32
  let v74 : BitVec 32 := Scalar.muli v49 c128_i32
  let v75 : BitVec 32 := v74
  let v76 : Index := Scalar.indexCast v75
  let c0_38 : Index := 0#32
  ![v76.toNat, 0]
def k0_mult2 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32 : BitVec 32 := 8#32
  let v48 : BitVec 32 := Scalar.muli arg12 c8_i32
  let c0_i32_33 : BitVec 32 := 0#32
  let v49 : BitVec 32 := Scalar.addi v48 c0_i32_33
  let c128_i32_50 : BitVec 32 := 128#32
  let v122 : BitVec 32 := Scalar.muli v49 c128_i32_50
  v122
def k0_off3 (k0_t1 : Fin k0_t1_loop.trips) (c0_i32_33 : BitVec 32) : Fin 2 → Nat :=
  let c0_i32_2 : BitVec 32 := 0#32
  let c1_i32 : BitVec 32 := 1#32
  let arg12 : BitVec 32 := Scf.iv c0_i32_2 c1_i32 k0_t1
  let c8_i32 : BitVec 32 := 8#32
  let v48 : BitVec 32 := Scalar.muli arg12 c8_i32
  let v49 : BitVec 32 := Scalar.addi v48 c0_i32_33
  let c128_i32_50 : BitVec 32 := 128#32
  let v122 : BitVec 32 := Scalar.muli v49 c128_i32_50
  let v123 : BitVec 32 := v122
  let v124 : Index := Scalar.indexCast v123
  let c128_51 : Index := 128#32
  ![v124.toNat, 128]
def k0_mult3 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32 : BitVec 32 := 8#32
  let v48 : BitVec 32 := Scalar.muli arg12 c8_i32
  let c0_i32_33 : BitVec 32 := 0#32
  let v49 : BitVec 32 := Scalar.addi v48 c0_i32_33
  let c128_i32_64 : BitVec 32 := 128#32
  let v170 : BitVec 32 := Scalar.muli v49 c128_i32_64
  v170
def k0_off4 (k0_t1 : Fin k0_t1_loop.trips) (c0_i32_33 : BitVec 32) : Fin 2 → Nat :=
  let c0_i32_2 : BitVec 32 := 0#32
  let c1_i32 : BitVec 32 := 1#32
  let arg12 : BitVec 32 := Scf.iv c0_i32_2 c1_i32 k0_t1
  let c8_i32 : BitVec 32 := 8#32
  let v48 : BitVec 32 := Scalar.muli arg12 c8_i32
  let v49 : BitVec 32 := Scalar.addi v48 c0_i32_33
  let c128_i32_64 : BitVec 32 := 128#32
  let v170 : BitVec 32 := Scalar.muli v49 c128_i32_64
  let v171 : BitVec 32 := v170
  let v172 : Index := Scalar.indexCast v171
  let c256_65 : Index := 256#32
  ![v172.toNat, 256]
def k0_mult4 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32 : BitVec 32 := 8#32
  let v48 : BitVec 32 := Scalar.muli arg12 c8_i32
  let c0_i32_33 : BitVec 32 := 0#32
  let v49 : BitVec 32 := Scalar.addi v48 c0_i32_33
  let c128_i32_78 : BitVec 32 := 128#32
  let v218 : BitVec 32 := Scalar.muli v49 c128_i32_78
  v218
def k0_off5 (k0_t1 : Fin k0_t1_loop.trips) (c0_i32_33 : BitVec 32) : Fin 2 → Nat :=
  let c0_i32_2 : BitVec 32 := 0#32
  let c1_i32 : BitVec 32 := 1#32
  let arg12 : BitVec 32 := Scf.iv c0_i32_2 c1_i32 k0_t1
  let c8_i32 : BitVec 32 := 8#32
  let v48 : BitVec 32 := Scalar.muli arg12 c8_i32
  let v49 : BitVec 32 := Scalar.addi v48 c0_i32_33
  let c128_i32_78 : BitVec 32 := 128#32
  let v218 : BitVec 32 := Scalar.muli v49 c128_i32_78
  let v219 : BitVec 32 := v218
  let v220 : Index := Scalar.indexCast v219
  let c384_79 : Index := 384#32
  ![v220.toNat, 384]
def k0_mult5 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_92 : BitVec 32 := 8#32
  let v266 : BitVec 32 := Scalar.muli arg12 c8_i32_92
  let c1_i32_93 : BitVec 32 := 1#32
  let v267 : BitVec 32 := Scalar.addi v266 c1_i32_93
  let c128_i32_100 : BitVec 32 := 128#32
  let v292 : BitVec 32 := Scalar.muli v267 c128_i32_100
  v292
def k0_mult6 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_92 : BitVec 32 := 8#32
  let v266 : BitVec 32 := Scalar.muli arg12 c8_i32_92
  let c1_i32_93 : BitVec 32 := 1#32
  let v267 : BitVec 32 := Scalar.addi v266 c1_i32_93
  let c128_i32_114 : BitVec 32 := 128#32
  let v340 : BitVec 32 := Scalar.muli v267 c128_i32_114
  v340
def k0_mult7 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_92 : BitVec 32 := 8#32
  let v266 : BitVec 32 := Scalar.muli arg12 c8_i32_92
  let c1_i32_93 : BitVec 32 := 1#32
  let v267 : BitVec 32 := Scalar.addi v266 c1_i32_93
  let c128_i32_128 : BitVec 32 := 128#32
  let v388 : BitVec 32 := Scalar.muli v267 c128_i32_128
  v388
def k0_mult8 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_92 : BitVec 32 := 8#32
  let v266 : BitVec 32 := Scalar.muli arg12 c8_i32_92
  let c1_i32_93 : BitVec 32 := 1#32
  let v267 : BitVec 32 := Scalar.addi v266 c1_i32_93
  let c128_i32_142 : BitVec 32 := 128#32
  let v436 : BitVec 32 := Scalar.muli v267 c128_i32_142
  v436
def k0_mult9 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_156 : BitVec 32 := 8#32
  let v484 : BitVec 32 := Scalar.muli arg12 c8_i32_156
  let c2_i32 : BitVec 32 := 2#32
  let v485 : BitVec 32 := Scalar.addi v484 c2_i32
  let c128_i32_163 : BitVec 32 := 128#32
  let v510 : BitVec 32 := Scalar.muli v485 c128_i32_163
  v510
def k0_mult10 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_156 : BitVec 32 := 8#32
  let v484 : BitVec 32 := Scalar.muli arg12 c8_i32_156
  let c2_i32 : BitVec 32 := 2#32
  let v485 : BitVec 32 := Scalar.addi v484 c2_i32
  let c128_i32_176 : BitVec 32 := 128#32
  let v558 : BitVec 32 := Scalar.muli v485 c128_i32_176
  v558
def k0_mult11 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_156 : BitVec 32 := 8#32
  let v484 : BitVec 32 := Scalar.muli arg12 c8_i32_156
  let c2_i32 : BitVec 32 := 2#32
  let v485 : BitVec 32 := Scalar.addi v484 c2_i32
  let c128_i32_190 : BitVec 32 := 128#32
  let v606 : BitVec 32 := Scalar.muli v485 c128_i32_190
  v606
def k0_mult12 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_156 : BitVec 32 := 8#32
  let v484 : BitVec 32 := Scalar.muli arg12 c8_i32_156
  let c2_i32 : BitVec 32 := 2#32
  let v485 : BitVec 32 := Scalar.addi v484 c2_i32
  let c128_i32_204 : BitVec 32 := 128#32
  let v654 : BitVec 32 := Scalar.muli v485 c128_i32_204
  v654
def k0_mult13 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_218 : BitVec 32 := 8#32
  let v702 : BitVec 32 := Scalar.muli arg12 c8_i32_218
  let c3_i32 : BitVec 32 := 3#32
  let v703 : BitVec 32 := Scalar.addi v702 c3_i32
  let c128_i32_225 : BitVec 32 := 128#32
  let v728 : BitVec 32 := Scalar.muli v703 c128_i32_225
  v728
def k0_mult14 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_218 : BitVec 32 := 8#32
  let v702 : BitVec 32 := Scalar.muli arg12 c8_i32_218
  let c3_i32 : BitVec 32 := 3#32
  let v703 : BitVec 32 := Scalar.addi v702 c3_i32
  let c128_i32_238 : BitVec 32 := 128#32
  let v776 : BitVec 32 := Scalar.muli v703 c128_i32_238
  v776
def k0_mult15 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_218 : BitVec 32 := 8#32
  let v702 : BitVec 32 := Scalar.muli arg12 c8_i32_218
  let c3_i32 : BitVec 32 := 3#32
  let v703 : BitVec 32 := Scalar.addi v702 c3_i32
  let c128_i32_252 : BitVec 32 := 128#32
  let v824 : BitVec 32 := Scalar.muli v703 c128_i32_252
  v824
def k0_mult16 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_218 : BitVec 32 := 8#32
  let v702 : BitVec 32 := Scalar.muli arg12 c8_i32_218
  let c3_i32 : BitVec 32 := 3#32
  let v703 : BitVec 32 := Scalar.addi v702 c3_i32
  let c128_i32_266 : BitVec 32 := 128#32
  let v872 : BitVec 32 := Scalar.muli v703 c128_i32_266
  v872
def k0_mult17 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_280 : BitVec 32 := 8#32
  let v920 : BitVec 32 := Scalar.muli arg12 c8_i32_280
  let c4_i32 : BitVec 32 := 4#32
  let v921 : BitVec 32 := Scalar.addi v920 c4_i32
  let c128_i32_287 : BitVec 32 := 128#32
  let v946 : BitVec 32 := Scalar.muli v921 c128_i32_287
  v946
def k0_mult18 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_280 : BitVec 32 := 8#32
  let v920 : BitVec 32 := Scalar.muli arg12 c8_i32_280
  let c4_i32 : BitVec 32 := 4#32
  let v921 : BitVec 32 := Scalar.addi v920 c4_i32
  let c128_i32_300 : BitVec 32 := 128#32
  let v994 : BitVec 32 := Scalar.muli v921 c128_i32_300
  v994
def k0_mult19 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_280 : BitVec 32 := 8#32
  let v920 : BitVec 32 := Scalar.muli arg12 c8_i32_280
  let c4_i32 : BitVec 32 := 4#32
  let v921 : BitVec 32 := Scalar.addi v920 c4_i32
  let c128_i32_314 : BitVec 32 := 128#32
  let v1042 : BitVec 32 := Scalar.muli v921 c128_i32_314
  v1042
def k0_mult20 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_280 : BitVec 32 := 8#32
  let v920 : BitVec 32 := Scalar.muli arg12 c8_i32_280
  let c4_i32 : BitVec 32 := 4#32
  let v921 : BitVec 32 := Scalar.addi v920 c4_i32
  let c128_i32_328 : BitVec 32 := 128#32
  let v1090 : BitVec 32 := Scalar.muli v921 c128_i32_328
  v1090
def k0_mult21 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_342 : BitVec 32 := 8#32
  let v1138 : BitVec 32 := Scalar.muli arg12 c8_i32_342
  let c5_i32 : BitVec 32 := 5#32
  let v1139 : BitVec 32 := Scalar.addi v1138 c5_i32
  let c128_i32_349 : BitVec 32 := 128#32
  let v1164 : BitVec 32 := Scalar.muli v1139 c128_i32_349
  v1164
def k0_mult22 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_342 : BitVec 32 := 8#32
  let v1138 : BitVec 32 := Scalar.muli arg12 c8_i32_342
  let c5_i32 : BitVec 32 := 5#32
  let v1139 : BitVec 32 := Scalar.addi v1138 c5_i32
  let c128_i32_362 : BitVec 32 := 128#32
  let v1212 : BitVec 32 := Scalar.muli v1139 c128_i32_362
  v1212
def k0_mult23 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_342 : BitVec 32 := 8#32
  let v1138 : BitVec 32 := Scalar.muli arg12 c8_i32_342
  let c5_i32 : BitVec 32 := 5#32
  let v1139 : BitVec 32 := Scalar.addi v1138 c5_i32
  let c128_i32_376 : BitVec 32 := 128#32
  let v1260 : BitVec 32 := Scalar.muli v1139 c128_i32_376
  v1260
def k0_mult24 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_342 : BitVec 32 := 8#32
  let v1138 : BitVec 32 := Scalar.muli arg12 c8_i32_342
  let c5_i32 : BitVec 32 := 5#32
  let v1139 : BitVec 32 := Scalar.addi v1138 c5_i32
  let c128_i32_390 : BitVec 32 := 128#32
  let v1308 : BitVec 32 := Scalar.muli v1139 c128_i32_390
  v1308
def k0_mult25 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_404 : BitVec 32 := 8#32
  let v1356 : BitVec 32 := Scalar.muli arg12 c8_i32_404
  let c6_i32 : BitVec 32 := 6#32
  let v1357 : BitVec 32 := Scalar.addi v1356 c6_i32
  let c128_i32_411 : BitVec 32 := 128#32
  let v1382 : BitVec 32 := Scalar.muli v1357 c128_i32_411
  v1382
def k0_mult26 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_404 : BitVec 32 := 8#32
  let v1356 : BitVec 32 := Scalar.muli arg12 c8_i32_404
  let c6_i32 : BitVec 32 := 6#32
  let v1357 : BitVec 32 := Scalar.addi v1356 c6_i32
  let c128_i32_424 : BitVec 32 := 128#32
  let v1430 : BitVec 32 := Scalar.muli v1357 c128_i32_424
  v1430
def k0_mult27 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_404 : BitVec 32 := 8#32
  let v1356 : BitVec 32 := Scalar.muli arg12 c8_i32_404
  let c6_i32 : BitVec 32 := 6#32
  let v1357 : BitVec 32 := Scalar.addi v1356 c6_i32
  let c128_i32_438 : BitVec 32 := 128#32
  let v1478 : BitVec 32 := Scalar.muli v1357 c128_i32_438
  v1478
def k0_mult28 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_404 : BitVec 32 := 8#32
  let v1356 : BitVec 32 := Scalar.muli arg12 c8_i32_404
  let c6_i32 : BitVec 32 := 6#32
  let v1357 : BitVec 32 := Scalar.addi v1356 c6_i32
  let c128_i32_452 : BitVec 32 := 128#32
  let v1526 : BitVec 32 := Scalar.muli v1357 c128_i32_452
  v1526
def k0_mult29 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_466 : BitVec 32 := 8#32
  let v1574 : BitVec 32 := Scalar.muli arg12 c8_i32_466
  let c7_i32_467 : BitVec 32 := 7#32
  let v1575 : BitVec 32 := Scalar.addi v1574 c7_i32_467
  let c128_i32_474 : BitVec 32 := 128#32
  let v1600 : BitVec 32 := Scalar.muli v1575 c128_i32_474
  v1600
def k0_mult30 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_466 : BitVec 32 := 8#32
  let v1574 : BitVec 32 := Scalar.muli arg12 c8_i32_466
  let c7_i32_467 : BitVec 32 := 7#32
  let v1575 : BitVec 32 := Scalar.addi v1574 c7_i32_467
  let c128_i32_487 : BitVec 32 := 128#32
  let v1648 : BitVec 32 := Scalar.muli v1575 c128_i32_487
  v1648
def k0_mult31 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_466 : BitVec 32 := 8#32
  let v1574 : BitVec 32 := Scalar.muli arg12 c8_i32_466
  let c7_i32_467 : BitVec 32 := 7#32
  let v1575 : BitVec 32 := Scalar.addi v1574 c7_i32_467
  let c128_i32_501 : BitVec 32 := 128#32
  let v1696 : BitVec 32 := Scalar.muli v1575 c128_i32_501
  v1696
def k0_mult32 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_466 : BitVec 32 := 8#32
  let v1574 : BitVec 32 := Scalar.muli arg12 c8_i32_466
  let c7_i32_467 : BitVec 32 := 7#32
  let v1575 : BitVec 32 := Scalar.addi v1574 c7_i32_467
  let c128_i32_515 : BitVec 32 := 128#32
  let v1744 : BitVec 32 := Scalar.muli v1575 c128_i32_515
  v1744
def k0_mult33 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c2048_i32 : BitVec 32 := 2048#32
  let v1792 : BitVec 32 := Scalar.muli arg12 c2048_i32
  v1792
def k0_off6 (k0_t1 : Fin k0_t1_loop.trips) : Fin 2 → Nat :=
  let c0_529 : Index := 0#32
  let c0_i32_2 : BitVec 32 := 0#32
  let c1_i32 : BitVec 32 := 1#32
  let arg12 : BitVec 32 := Scf.iv c0_i32_2 c1_i32 k0_t1
  let c2048_i32 : BitVec 32 := 2048#32
  let v1792 : BitVec 32 := Scalar.muli arg12 c2048_i32
  let v1793 : BitVec 32 := v1792
  let v1794 : Index := Scalar.indexCast v1793
  ![0, v1794.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1920x14336 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S7168x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x56x256 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S56x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1920x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1920x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
abbrev S1920x14336 : Shape := ⟨2, ![1920, 14336]⟩
abbrev S7168x4096 : Shape := ⟨2, ![7168, 4096]⟩
abbrev S56x256x2 : Shape := ⟨3, ![56, 256, 2]⟩
abbrev S56 : Shape := ⟨1, ![56]⟩
abbrev S1920 : Shape := ⟨1, ![1920]⟩
abbrev S4096 : Shape := ⟨1, ![4096]⟩
abbrev S1920x1 : Shape := ⟨2, ![1920, 1]⟩
abbrev S1920x128 : Shape := ⟨2, ![1920, 128]⟩
abbrev S2x56x256 : Shape := ⟨3, ![2, 56, 256]⟩
abbrev S56x1 : Shape := ⟨2, ![56, 1]⟩
abbrev S1x4096 : Shape := ⟨2, ![1, 4096]⟩
abbrev S1920x4096 : Shape := ⟨2, ![1920, 4096]⟩
abbrev S7168x512 : Shape := ⟨2, ![7168, 512]⟩
abbrev S1x512 : Shape := ⟨2, ![1, 512]⟩
abbrev S1920x512 : Shape := ⟨2, ![1920, 512]⟩
abbrev S56x128 : Shape := ⟨2, ![56, 128]⟩
abbrev S56x2x128 : Shape := ⟨3, ![56, 2, 128]⟩
abbrev S56x1x128 : Shape := ⟨3, ![56, 1, 128]⟩
abbrev S2048x512 : Shape := ⟨2, ![2048, 512]⟩
abbrev S1x56x128 : Shape := ⟨3, ![1, 56, 128]⟩
abbrev S1x128 : Shape := ⟨2, ![1, 128]⟩
abbrev S1x2x128 : Shape := ⟨3, ![1, 2, 128]⟩
abbrev S1x1x128 : Shape := ⟨3, ![1, 1, 128]⟩
abbrev S2x128 : Shape := ⟨2, ![2, 128]⟩
abbrev S128x128 : Shape := ⟨2, ![128, 128]⟩
abbrev S128x128x1 : Shape := ⟨3, ![128, 128, 1]⟩
abbrev S256x128 : Shape := ⟨2, ![256, 128]⟩
abbrev S1920x2048 : Shape := ⟨2, ![1920, 2048]⟩

abbrev nBuf : Space → Nat
  | .hbm => 12
  | .vmem => 14
  | .smem => 0
  | _ => 0

abbrev bufTy : (tb : Table) → Fin (tcTables nBuf tb) → BufTy
  | .hbm, ⟨0, _⟩ => ⟨S1920x14336, .i8⟩
  | .hbm, ⟨1, _⟩ => ⟨S7168x4096, .i8⟩
  | .hbm, ⟨2, _⟩ => ⟨S56x256x2, .i8⟩
  | .hbm, ⟨3, _⟩ => ⟨S56, .bf16⟩
  | .hbm, ⟨4, _⟩ => ⟨S1920, .f32⟩
  | .hbm, ⟨5, _⟩ => ⟨S4096, .f32⟩
  | .hbm, ⟨6, _⟩ => ⟨S1920x1, .f32⟩
  | .hbm, ⟨7, _⟩ => ⟨S1920x128, .f32⟩
  | .hbm, ⟨8, _⟩ => ⟨S2x56x256, .i8⟩
  | .hbm, ⟨9, _⟩ => ⟨S56x1, .bf16⟩
  | .hbm, ⟨10, _⟩ => ⟨S1x4096, .f32⟩
  | .hbm, ⟨11, _⟩ => ⟨S1920x4096, .bf16⟩
  | .local _ .vmem, ⟨0, _⟩ => ⟨S1920x14336, .i8⟩
  | .local _ .vmem, ⟨1, _⟩ => ⟨S7168x512, .i8⟩
  | .local _ .vmem, ⟨2, _⟩ => ⟨S7168x512, .i8⟩
  | .local _ .vmem, ⟨3, _⟩ => ⟨S2x56x256, .i8⟩
  | .local _ .vmem, ⟨4, _⟩ => ⟨S56x1, .bf16⟩
  | .local _ .vmem, ⟨5, _⟩ => ⟨S1920x128, .f32⟩
  | .local _ .vmem, ⟨6, _⟩ => ⟨S1x512, .f32⟩
  | .local _ .vmem, ⟨7, _⟩ => ⟨S1x512, .f32⟩
  | .local _ .vmem, ⟨8, _⟩ => ⟨S1920x512, .bf16⟩
  | .local _ .vmem, ⟨9, _⟩ => ⟨S1920x512, .bf16⟩
  | .local _ .vmem, ⟨10, _⟩ => ⟨S56x2x128, .bf16⟩
  | .local _ .vmem, ⟨11, _⟩ => ⟨S56x2x128, .bf16⟩
  | .local _ .vmem, ⟨12, _⟩ => ⟨S2048x512, .bf16⟩
  | .local _ .vmem, ⟨13, _⟩ => ⟨S1920x512, .f32⟩
  | _, _ => ⟨S1920x14336, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_2 : BitVec 32 := 0#32
  let c7_i32 : BitVec 32 := 7#32
  let v7 : BitVec 32 := Scalar.addi c0_i32_2 c7_i32
  let c1_i32 : BitVec 32 := 1#32
  ⟨c0_i32_2, v7, c1_i32⟩
def k0_off1 (k0_t1 : Fin k0_t1_loop.trips) (c0_i32_33 : BitVec 32) : Fin 3 → Nat :=
  let c0_i32_2 : BitVec 32 := 0#32
  let c1_i32 : BitVec 32 := 1#32
  let arg12 : BitVec 32 := Scf.iv c0_i32_2 c1_i32 k0_t1
  let c8_i32 : BitVec 32 := 8#32
  let v48 : BitVec 32 := Scalar.muli arg12 c8_i32
  let v49 : BitVec 32 := Scalar.addi v48 c0_i32_33
  let v50 : Index := Scalar.indexCast v49
  let c0_34 : Index := 0#32
  ![v50.toNat, 0, 0]
def k0_mult1 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32 : BitVec 32 := 8#32
  let v48 : BitVec 32 := Scalar.muli arg12 c8_i32
  let c0_i32_33 : BitVec 32 := 0#32
  let v49 : BitVec 32 := Scalar.addi v48 c0_i32_33
  let c128_i32 : BitVec 32 := 128#32
  let v74 : BitVec 32 := Scalar.muli v49 c128_i32
  v74
def k0_off2 (k0_t1 : Fin k0_t1_loop.trips) (c0_i32_33 : BitVec 32) : Fin 2 → Nat :=
  let c0_i32_2 : BitVec 32 := 0#32
  let c1_i32 : BitVec 32 := 1#32
  let arg12 : BitVec 32 := Scf.iv c0_i32_2 c1_i32 k0_t1
  let c8_i32 : BitVec 32 := 8#32
  let v48 : BitVec 32 := Scalar.muli arg12 c8_i32
  let v49 : BitVec 32 := Scalar.addi v48 c0_i32_33
  let c128_i32 : BitVec 32 := 128#32
  let v74 : BitVec 32 := Scalar.muli v49 c128_i32
  let v75 : BitVec 32 := v74
  let v76 : Index := Scalar.indexCast v75
  let c0_38 : Index := 0#32
  ![v76.toNat, 0]
def k0_mult2 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32 : BitVec 32 := 8#32
  let v48 : BitVec 32 := Scalar.muli arg12 c8_i32
  let c0_i32_33 : BitVec 32 := 0#32
  let v49 : BitVec 32 := Scalar.addi v48 c0_i32_33
  let c128_i32_50 : BitVec 32 := 128#32
  let v122 : BitVec 32 := Scalar.muli v49 c128_i32_50
  v122
def k0_off3 (k0_t1 : Fin k0_t1_loop.trips) (c0_i32_33 : BitVec 32) : Fin 2 → Nat :=
  let c0_i32_2 : BitVec 32 := 0#32
  let c1_i32 : BitVec 32 := 1#32
  let arg12 : BitVec 32 := Scf.iv c0_i32_2 c1_i32 k0_t1
  let c8_i32 : BitVec 32 := 8#32
  let v48 : BitVec 32 := Scalar.muli arg12 c8_i32
  let v49 : BitVec 32 := Scalar.addi v48 c0_i32_33
  let c128_i32_50 : BitVec 32 := 128#32
  let v122 : BitVec 32 := Scalar.muli v49 c128_i32_50
  let v123 : BitVec 32 := v122
  let v124 : Index := Scalar.indexCast v123
  let c128_51 : Index := 128#32
  ![v124.toNat, 128]
def k0_mult3 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32 : BitVec 32 := 8#32
  let v48 : BitVec 32 := Scalar.muli arg12 c8_i32
  let c0_i32_33 : BitVec 32 := 0#32
  let v49 : BitVec 32 := Scalar.addi v48 c0_i32_33
  let c128_i32_64 : BitVec 32 := 128#32
  let v170 : BitVec 32 := Scalar.muli v49 c128_i32_64
  v170
def k0_off4 (k0_t1 : Fin k0_t1_loop.trips) (c0_i32_33 : BitVec 32) : Fin 2 → Nat :=
  let c0_i32_2 : BitVec 32 := 0#32
  let c1_i32 : BitVec 32 := 1#32
  let arg12 : BitVec 32 := Scf.iv c0_i32_2 c1_i32 k0_t1
  let c8_i32 : BitVec 32 := 8#32
  let v48 : BitVec 32 := Scalar.muli arg12 c8_i32
  let v49 : BitVec 32 := Scalar.addi v48 c0_i32_33
  let c128_i32_64 : BitVec 32 := 128#32
  let v170 : BitVec 32 := Scalar.muli v49 c128_i32_64
  let v171 : BitVec 32 := v170
  let v172 : Index := Scalar.indexCast v171
  let c256_65 : Index := 256#32
  ![v172.toNat, 256]
def k0_mult4 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32 : BitVec 32 := 8#32
  let v48 : BitVec 32 := Scalar.muli arg12 c8_i32
  let c0_i32_33 : BitVec 32 := 0#32
  let v49 : BitVec 32 := Scalar.addi v48 c0_i32_33
  let c128_i32_78 : BitVec 32 := 128#32
  let v218 : BitVec 32 := Scalar.muli v49 c128_i32_78
  v218
def k0_off5 (k0_t1 : Fin k0_t1_loop.trips) (c0_i32_33 : BitVec 32) : Fin 2 → Nat :=
  let c0_i32_2 : BitVec 32 := 0#32
  let c1_i32 : BitVec 32 := 1#32
  let arg12 : BitVec 32 := Scf.iv c0_i32_2 c1_i32 k0_t1
  let c8_i32 : BitVec 32 := 8#32
  let v48 : BitVec 32 := Scalar.muli arg12 c8_i32
  let v49 : BitVec 32 := Scalar.addi v48 c0_i32_33
  let c128_i32_78 : BitVec 32 := 128#32
  let v218 : BitVec 32 := Scalar.muli v49 c128_i32_78
  let v219 : BitVec 32 := v218
  let v220 : Index := Scalar.indexCast v219
  let c384_79 : Index := 384#32
  ![v220.toNat, 384]
def k0_mult5 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_92 : BitVec 32 := 8#32
  let v266 : BitVec 32 := Scalar.muli arg12 c8_i32_92
  let c1_i32_93 : BitVec 32 := 1#32
  let v267 : BitVec 32 := Scalar.addi v266 c1_i32_93
  let c128_i32_100 : BitVec 32 := 128#32
  let v292 : BitVec 32 := Scalar.muli v267 c128_i32_100
  v292
def k0_mult6 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_92 : BitVec 32 := 8#32
  let v266 : BitVec 32 := Scalar.muli arg12 c8_i32_92
  let c1_i32_93 : BitVec 32 := 1#32
  let v267 : BitVec 32 := Scalar.addi v266 c1_i32_93
  let c128_i32_114 : BitVec 32 := 128#32
  let v340 : BitVec 32 := Scalar.muli v267 c128_i32_114
  v340
def k0_mult7 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_92 : BitVec 32 := 8#32
  let v266 : BitVec 32 := Scalar.muli arg12 c8_i32_92
  let c1_i32_93 : BitVec 32 := 1#32
  let v267 : BitVec 32 := Scalar.addi v266 c1_i32_93
  let c128_i32_128 : BitVec 32 := 128#32
  let v388 : BitVec 32 := Scalar.muli v267 c128_i32_128
  v388
def k0_mult8 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_92 : BitVec 32 := 8#32
  let v266 : BitVec 32 := Scalar.muli arg12 c8_i32_92
  let c1_i32_93 : BitVec 32 := 1#32
  let v267 : BitVec 32 := Scalar.addi v266 c1_i32_93
  let c128_i32_142 : BitVec 32 := 128#32
  let v436 : BitVec 32 := Scalar.muli v267 c128_i32_142
  v436
def k0_mult9 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_156 : BitVec 32 := 8#32
  let v484 : BitVec 32 := Scalar.muli arg12 c8_i32_156
  let c2_i32 : BitVec 32 := 2#32
  let v485 : BitVec 32 := Scalar.addi v484 c2_i32
  let c128_i32_163 : BitVec 32 := 128#32
  let v510 : BitVec 32 := Scalar.muli v485 c128_i32_163
  v510
def k0_mult10 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_156 : BitVec 32 := 8#32
  let v484 : BitVec 32 := Scalar.muli arg12 c8_i32_156
  let c2_i32 : BitVec 32 := 2#32
  let v485 : BitVec 32 := Scalar.addi v484 c2_i32
  let c128_i32_176 : BitVec 32 := 128#32
  let v558 : BitVec 32 := Scalar.muli v485 c128_i32_176
  v558
def k0_mult11 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_156 : BitVec 32 := 8#32
  let v484 : BitVec 32 := Scalar.muli arg12 c8_i32_156
  let c2_i32 : BitVec 32 := 2#32
  let v485 : BitVec 32 := Scalar.addi v484 c2_i32
  let c128_i32_190 : BitVec 32 := 128#32
  let v606 : BitVec 32 := Scalar.muli v485 c128_i32_190
  v606
def k0_mult12 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_156 : BitVec 32 := 8#32
  let v484 : BitVec 32 := Scalar.muli arg12 c8_i32_156
  let c2_i32 : BitVec 32 := 2#32
  let v485 : BitVec 32 := Scalar.addi v484 c2_i32
  let c128_i32_204 : BitVec 32 := 128#32
  let v654 : BitVec 32 := Scalar.muli v485 c128_i32_204
  v654
def k0_mult13 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_218 : BitVec 32 := 8#32
  let v702 : BitVec 32 := Scalar.muli arg12 c8_i32_218
  let c3_i32 : BitVec 32 := 3#32
  let v703 : BitVec 32 := Scalar.addi v702 c3_i32
  let c128_i32_225 : BitVec 32 := 128#32
  let v728 : BitVec 32 := Scalar.muli v703 c128_i32_225
  v728
def k0_mult14 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_218 : BitVec 32 := 8#32
  let v702 : BitVec 32 := Scalar.muli arg12 c8_i32_218
  let c3_i32 : BitVec 32 := 3#32
  let v703 : BitVec 32 := Scalar.addi v702 c3_i32
  let c128_i32_238 : BitVec 32 := 128#32
  let v776 : BitVec 32 := Scalar.muli v703 c128_i32_238
  v776
def k0_mult15 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_218 : BitVec 32 := 8#32
  let v702 : BitVec 32 := Scalar.muli arg12 c8_i32_218
  let c3_i32 : BitVec 32 := 3#32
  let v703 : BitVec 32 := Scalar.addi v702 c3_i32
  let c128_i32_252 : BitVec 32 := 128#32
  let v824 : BitVec 32 := Scalar.muli v703 c128_i32_252
  v824
def k0_mult16 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_218 : BitVec 32 := 8#32
  let v702 : BitVec 32 := Scalar.muli arg12 c8_i32_218
  let c3_i32 : BitVec 32 := 3#32
  let v703 : BitVec 32 := Scalar.addi v702 c3_i32
  let c128_i32_266 : BitVec 32 := 128#32
  let v872 : BitVec 32 := Scalar.muli v703 c128_i32_266
  v872
def k0_mult17 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_280 : BitVec 32 := 8#32
  let v920 : BitVec 32 := Scalar.muli arg12 c8_i32_280
  let c4_i32 : BitVec 32 := 4#32
  let v921 : BitVec 32 := Scalar.addi v920 c4_i32
  let c128_i32_287 : BitVec 32 := 128#32
  let v946 : BitVec 32 := Scalar.muli v921 c128_i32_287
  v946
def k0_mult18 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_280 : BitVec 32 := 8#32
  let v920 : BitVec 32 := Scalar.muli arg12 c8_i32_280
  let c4_i32 : BitVec 32 := 4#32
  let v921 : BitVec 32 := Scalar.addi v920 c4_i32
  let c128_i32_300 : BitVec 32 := 128#32
  let v994 : BitVec 32 := Scalar.muli v921 c128_i32_300
  v994
def k0_mult19 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_280 : BitVec 32 := 8#32
  let v920 : BitVec 32 := Scalar.muli arg12 c8_i32_280
  let c4_i32 : BitVec 32 := 4#32
  let v921 : BitVec 32 := Scalar.addi v920 c4_i32
  let c128_i32_314 : BitVec 32 := 128#32
  let v1042 : BitVec 32 := Scalar.muli v921 c128_i32_314
  v1042
def k0_mult20 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_280 : BitVec 32 := 8#32
  let v920 : BitVec 32 := Scalar.muli arg12 c8_i32_280
  let c4_i32 : BitVec 32 := 4#32
  let v921 : BitVec 32 := Scalar.addi v920 c4_i32
  let c128_i32_328 : BitVec 32 := 128#32
  let v1090 : BitVec 32 := Scalar.muli v921 c128_i32_328
  v1090
def k0_mult21 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_342 : BitVec 32 := 8#32
  let v1138 : BitVec 32 := Scalar.muli arg12 c8_i32_342
  let c5_i32 : BitVec 32 := 5#32
  let v1139 : BitVec 32 := Scalar.addi v1138 c5_i32
  let c128_i32_349 : BitVec 32 := 128#32
  let v1164 : BitVec 32 := Scalar.muli v1139 c128_i32_349
  v1164
def k0_mult22 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_342 : BitVec 32 := 8#32
  let v1138 : BitVec 32 := Scalar.muli arg12 c8_i32_342
  let c5_i32 : BitVec 32 := 5#32
  let v1139 : BitVec 32 := Scalar.addi v1138 c5_i32
  let c128_i32_362 : BitVec 32 := 128#32
  let v1212 : BitVec 32 := Scalar.muli v1139 c128_i32_362
  v1212
def k0_mult23 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_342 : BitVec 32 := 8#32
  let v1138 : BitVec 32 := Scalar.muli arg12 c8_i32_342
  let c5_i32 : BitVec 32 := 5#32
  let v1139 : BitVec 32 := Scalar.addi v1138 c5_i32
  let c128_i32_376 : BitVec 32 := 128#32
  let v1260 : BitVec 32 := Scalar.muli v1139 c128_i32_376
  v1260
def k0_mult24 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_342 : BitVec 32 := 8#32
  let v1138 : BitVec 32 := Scalar.muli arg12 c8_i32_342
  let c5_i32 : BitVec 32 := 5#32
  let v1139 : BitVec 32 := Scalar.addi v1138 c5_i32
  let c128_i32_390 : BitVec 32 := 128#32
  let v1308 : BitVec 32 := Scalar.muli v1139 c128_i32_390
  v1308
def k0_mult25 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_404 : BitVec 32 := 8#32
  let v1356 : BitVec 32 := Scalar.muli arg12 c8_i32_404
  let c6_i32 : BitVec 32 := 6#32
  let v1357 : BitVec 32 := Scalar.addi v1356 c6_i32
  let c128_i32_411 : BitVec 32 := 128#32
  let v1382 : BitVec 32 := Scalar.muli v1357 c128_i32_411
  v1382
def k0_mult26 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_404 : BitVec 32 := 8#32
  let v1356 : BitVec 32 := Scalar.muli arg12 c8_i32_404
  let c6_i32 : BitVec 32 := 6#32
  let v1357 : BitVec 32 := Scalar.addi v1356 c6_i32
  let c128_i32_424 : BitVec 32 := 128#32
  let v1430 : BitVec 32 := Scalar.muli v1357 c128_i32_424
  v1430
def k0_mult27 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_404 : BitVec 32 := 8#32
  let v1356 : BitVec 32 := Scalar.muli arg12 c8_i32_404
  let c6_i32 : BitVec 32 := 6#32
  let v1357 : BitVec 32 := Scalar.addi v1356 c6_i32
  let c128_i32_438 : BitVec 32 := 128#32
  let v1478 : BitVec 32 := Scalar.muli v1357 c128_i32_438
  v1478
def k0_mult28 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_404 : BitVec 32 := 8#32
  let v1356 : BitVec 32 := Scalar.muli arg12 c8_i32_404
  let c6_i32 : BitVec 32 := 6#32
  let v1357 : BitVec 32 := Scalar.addi v1356 c6_i32
  let c128_i32_452 : BitVec 32 := 128#32
  let v1526 : BitVec 32 := Scalar.muli v1357 c128_i32_452
  v1526
def k0_mult29 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_466 : BitVec 32 := 8#32
  let v1574 : BitVec 32 := Scalar.muli arg12 c8_i32_466
  let c7_i32_467 : BitVec 32 := 7#32
  let v1575 : BitVec 32 := Scalar.addi v1574 c7_i32_467
  let c128_i32_474 : BitVec 32 := 128#32
  let v1600 : BitVec 32 := Scalar.muli v1575 c128_i32_474
  v1600
def k0_mult30 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_466 : BitVec 32 := 8#32
  let v1574 : BitVec 32 := Scalar.muli arg12 c8_i32_466
  let c7_i32_467 : BitVec 32 := 7#32
  let v1575 : BitVec 32 := Scalar.addi v1574 c7_i32_467
  let c128_i32_487 : BitVec 32 := 128#32
  let v1648 : BitVec 32 := Scalar.muli v1575 c128_i32_487
  v1648
def k0_mult31 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_466 : BitVec 32 := 8#32
  let v1574 : BitVec 32 := Scalar.muli arg12 c8_i32_466
  let c7_i32_467 : BitVec 32 := 7#32
  let v1575 : BitVec 32 := Scalar.addi v1574 c7_i32_467
  let c128_i32_501 : BitVec 32 := 128#32
  let v1696 : BitVec 32 := Scalar.muli v1575 c128_i32_501
  v1696
def k0_mult32 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c8_i32_466 : BitVec 32 := 8#32
  let v1574 : BitVec 32 := Scalar.muli arg12 c8_i32_466
  let c7_i32_467 : BitVec 32 := 7#32
  let v1575 : BitVec 32 := Scalar.addi v1574 c7_i32_467
  let c128_i32_515 : BitVec 32 := 128#32
  let v1744 : BitVec 32 := Scalar.muli v1575 c128_i32_515
  v1744
def k0_mult33 (k0_t1 : Fin k0_t1_loop.trips) : BitVec 32 :=
  let c0_i32_2 : BitVec 32 := 0#32
  let c1_i32 : BitVec 32 := 1#32
  let arg12 : BitVec 32 := Scf.iv c0_i32_2 c1_i32 k0_t1
  let c2048_i32 : BitVec 32 := 2048#32
  let v1792 : BitVec 32 := Scalar.muli arg12 c2048_i32
  v1792
def k0_off6 (k0_t1 : Fin k0_t1_loop.trips) : Fin 2 → Nat :=
  let c0_529 : Index := 0#32
  let c0_i32_2 : BitVec 32 := 0#32
  let c1_i32 : BitVec 32 := 1#32
  let arg12 : BitVec 32 := Scf.iv c0_i32_2 c1_i32 k0_t1
  let c2048_i32 : BitVec 32 := 2048#32
  let v1792 : BitVec 32 := Scalar.muli arg12 c2048_i32
  let v1793 : BitVec 32 := v1792
  let v1794 : Index := Scalar.indexCast v1793
  ![0, v1794.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1920x14336 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S7168x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x56x256 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S56x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1920x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1920x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1920x14336 : Shape := ⟨2, ![1920, 14336]⟩
abbrev S7168x4096 : Shape := ⟨2, ![7168, 4096]⟩
abbrev S56x256x2 : Shape := ⟨3, ![56, 256, 2]⟩
abbrev S56 : Shape := ⟨1, ![56]⟩
abbrev S1920 : Shape := ⟨1, ![1920]⟩
abbrev S4096 : Shape := ⟨1, ![4096]⟩
abbrev S56x1x1 : Shape := ⟨3, ![56, 1, 1]⟩
abbrev S56x128x4096 : Shape := ⟨3, ![56, 128, 4096]⟩
abbrev S56x128x4096x1 : Shape := ⟨4, ![56, 128, 4096, 1]⟩
abbrev S56x128x4096x2 : Shape := ⟨4, ![56, 128, 4096, 2]⟩
abbrev S56x128x2x4096 : Shape := ⟨4, ![56, 128, 2, 4096]⟩
abbrev S14336x4096 : Shape := ⟨2, ![14336, 4096]⟩
abbrev S1920x4096 : Shape := ⟨2, ![1920, 4096]⟩
abbrev S1920x1 : Shape := ⟨2, ![1920, 1]⟩
abbrev S1x4096 : Shape := ⟨2, ![1, 4096]⟩

abbrev nBuf : Space → Nat
  | .hbm => 30
  | .vmem => 4
  | .smem => 0
  | _ => 0

abbrev bufTy : (tb : Table) → Fin (tcTables nBuf tb) → BufTy
  | .hbm, ⟨0, _⟩ => ⟨S1920x14336, .i8⟩
  | .hbm, ⟨1, _⟩ => ⟨S7168x4096, .i8⟩
  | .hbm, ⟨2, _⟩ => ⟨S56x256x2, .i8⟩
  | .hbm, ⟨3, _⟩ => ⟨S56, .bf16⟩
  | .hbm, ⟨4, _⟩ => ⟨S1920, .f32⟩
  | .hbm, ⟨5, _⟩ => ⟨S4096, .f32⟩
  | .hbm, ⟨6, _⟩ => ⟨S1920x14336, .bf16⟩
  | .hbm, ⟨7, _⟩ => ⟨S56x256x2, .bf16⟩
  | .hbm, ⟨8, _⟩ => ⟨S56x1x1, .bf16⟩
  | .hbm, ⟨9, _⟩ => ⟨S56x256x2, .bf16⟩
  | .hbm, ⟨10, _⟩ => ⟨S56x256x2, .bf16⟩
  | .hbm, ⟨11, _⟩ => ⟨S7168x4096, .i32⟩
  | .hbm, ⟨12, _⟩ => ⟨S56x128x4096, .i32⟩
  | .hbm, ⟨13, _⟩ => ⟨S56, .i32⟩
  | .hbm, ⟨14, _⟩ => ⟨S56x1x1, .i32⟩
  | .hbm, ⟨15, _⟩ => ⟨S56x128x4096, .i32⟩
  | .hbm, ⟨16, _⟩ => ⟨S56x128x4096x1, .i32⟩
  | .hbm, ⟨17, _⟩ => ⟨S56x128x4096x1, .i32⟩
  | .hbm, ⟨18, _⟩ => ⟨S56x128x4096x2, .i32⟩
  | .hbm, ⟨19, _⟩ => ⟨S56x128x4096x2, .bf16⟩
  | .hbm, ⟨20, _⟩ => ⟨S56x128x2x4096, .bf16⟩
  | .hbm, ⟨21, _⟩ => ⟨S14336x4096, .bf16⟩
  | .hbm, ⟨22, _⟩ => ⟨S1920x4096, .f32⟩
  | .hbm, ⟨23, _⟩ => ⟨S1920x1, .f32⟩
  | .hbm, ⟨24, _⟩ => ⟨S1920x4096, .f32⟩
  | .hbm, ⟨25, _⟩ => ⟨S1920x4096, .f32⟩
  | .hbm, ⟨26, _⟩ => ⟨S1x4096, .f32⟩
  | .hbm, ⟨27, _⟩ => ⟨S1920x4096, .f32⟩
  | .hbm, ⟨28, _⟩ => ⟨S1920x4096, .f32⟩
  | .hbm, ⟨29, _⟩ => ⟨S1920x4096, .bf16⟩
  | .local _ .vmem, ⟨0, _⟩ => ⟨S1920x14336, .i8⟩
  | .local _ .vmem, ⟨1, _⟩ => ⟨S56x256x2, .i8⟩
  | .local _ .vmem, ⟨2, _⟩ => ⟨S1920x14336, .bf16⟩
  | .local _ .vmem, ⟨3, _⟩ => ⟨S56x256x2, .bf16⟩
  | _, _ => ⟨S1920x14336, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1920x14336 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S56x256x2 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1920x14336 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S56x256x2 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Quantise.lean ====
abbrev S3x640x14336 : Shape := ⟨3, ![3, 640, 14336]⟩
abbrev S1920x14336 : Shape := ⟨2, ![1920, 14336]⟩
abbrev S1920x128 : Shape := ⟨2, ![1920, 128]⟩
abbrev S15x1x128 : Shape := ⟨3, ![15, 1, 128]⟩
abbrev S128x14336 : Shape := ⟨2, ![128, 14336]⟩
abbrev S128x128 : Shape := ⟨2, ![128, 128]⟩
abbrev S1x1x128 : Shape := ⟨3, ![1, 1, 128]⟩
abbrev S32x128 : Shape := ⟨2, ![32, 128]⟩
abbrev S32 : Shape := ⟨1, ![32]⟩
abbrev S32x1 : Shape := ⟨2, ![32, 1]⟩
abbrev S1x128 : Shape := ⟨2, ![1, 128]⟩

abbrev nBuf : Space → Nat
  | .hbm => 5
  | .vmem => 8
  | .smem => 0
  | _ => 0

abbrev bufTy : (tb : Table) → Fin (tcTables nBuf tb) → BufTy
  | .hbm, ⟨0, _⟩ => ⟨S3x640x14336, .bf16⟩
  | .hbm, ⟨1, _⟩ => ⟨S1920x14336, .bf16⟩
  | .hbm, ⟨2, _⟩ => ⟨S1920x14336, .i8⟩
  | .hbm, ⟨3, _⟩ => ⟨S1920x128, .f32⟩
  | .hbm, ⟨4, _⟩ => ⟨S15x1x128, .f32⟩
  | .local _ .vmem, ⟨0, _⟩ => ⟨S128x14336, .bf16⟩
  | .local _ .vmem, ⟨1, _⟩ => ⟨S128x14336, .bf16⟩
  | .local _ .vmem, ⟨2, _⟩ => ⟨S128x14336, .i8⟩
  | .local _ .vmem, ⟨3, _⟩ => ⟨S128x14336, .i8⟩
  | .local _ .vmem, ⟨4, _⟩ => ⟨S128x128, .f32⟩
  | .local _ .vmem, ⟨5, _⟩ => ⟨S128x128, .f32⟩
  | .local _ .vmem, ⟨6, _⟩ => ⟨S1x1x128, .f32⟩
  | .local _ .vmem, ⟨7, _⟩ => ⟨S1x1x128, .f32⟩
  | _, _ => ⟨S3x640x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x14336 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x14336 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== QuantiseReferenceIdeal.lean ====
abbrev S3x640x14336 : Shape := ⟨3, ![3, 640, 14336]⟩
abbrev S1920x14336 : Shape := ⟨2, ![1920, 14336]⟩
abbrev S_ : Shape := ⟨0, ![]⟩
abbrev S1920 : Shape := ⟨1, ![1920]⟩
abbrev S1920x1 : Shape := ⟨2, ![1920, 1]⟩
abbrev S1920x128 : Shape := ⟨2, ![1920, 128]⟩
abbrev S15x1x128 : Shape := ⟨3, ![15, 1, 128]⟩

abbrev nBuf : Space → Nat
  | .hbm => 32
  | .vmem => 2
  | .smem => 0
  | _ => 0

abbrev bufTy : (tb : Table) → Fin (tcTables nBuf tb) → BufTy
  | .hbm, ⟨0, _⟩ => ⟨S3x640x14336, .bf16⟩
  | .hbm, ⟨1, _⟩ => ⟨S1920x14336, .bf16⟩
  | .hbm, ⟨2, _⟩ => ⟨S1920x14336, .f32⟩
  | .hbm, ⟨3, _⟩ => ⟨S1920x14336, .f32⟩
  | .hbm, ⟨4, _⟩ => ⟨S_, .f32⟩
  | .hbm, ⟨5, _⟩ => ⟨S1920, .f32⟩
  | .hbm, ⟨6, _⟩ => ⟨S_, .f32⟩
  | .hbm, ⟨7, _⟩ => ⟨S1920, .f32⟩
  | .hbm, ⟨8, _⟩ => ⟨S1920, .i1⟩
  | .hbm, ⟨9, _⟩ => ⟨S_, .f32⟩
  | .hbm, ⟨10, _⟩ => ⟨S1920, .f32⟩
  | .hbm, ⟨11, _⟩ => ⟨S1920, .f32⟩
  | .hbm, ⟨12, _⟩ => ⟨S_, .f32⟩
  | .hbm, ⟨13, _⟩ => ⟨S_, .f32⟩
  | .hbm, ⟨14, _⟩ => ⟨S1920, .f32⟩
  | .hbm, ⟨15, _⟩ => ⟨S1920, .f32⟩
  | .hbm, ⟨16, _⟩ => ⟨S1920x1, .f32⟩
  | .hbm, ⟨17, _⟩ => ⟨S1920x14336, .f32⟩
  | .hbm, ⟨18, _⟩ => ⟨S1920x14336, .f32⟩
  | .hbm, ⟨19, _⟩ => ⟨S1920x14336, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1920x14336, .f32⟩
  | .hbm, ⟨24, _⟩ => ⟨S1920x14336, .f32⟩
  | .hbm, ⟨25, _⟩ => ⟨S_, .f32⟩
  | .hbm, ⟨26, _⟩ => ⟨S1920x14336, .f32⟩
  | .hbm, ⟨27, _⟩ => ⟨S1920x14336, .f32⟩
  | .hbm, ⟨28, _⟩ => ⟨S1920x14336, .i8⟩
  | .hbm, ⟨29, _⟩ => ⟨S1920x1, .f32⟩
  | .hbm, ⟨30, _⟩ => ⟨S1920x128, .f32⟩
  | .hbm, ⟨31, _⟩ => ⟨S15x1x128, .f32⟩
  | .local _ .vmem, ⟨0, _⟩ => ⟨S1920x14336, .f32⟩
  | .local _ .vmem, ⟨1, _⟩ => ⟨S1920x14336, .i8⟩
  | _, _ => ⟨S3x640x14336, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_cst_4 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1920x14336 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x14336 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.P.Kit.lean ====
/-
# What the runs share

The condition of the body's one conditional (the grid's first point), the staging and scratch memrefs, and the
region invariant with the scratch operands as memrefs.
-/
module

public import proofs.«01_k».proof.Proof.Gen.Kernel.Frame
public import proofs.«01_k».proof.Proof.Gen.Kernel.Loops

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

/-- The condition of the body's conditional, from the grid coordinate. -/
abbrev cond0 (i : grid0.Coords) : Prop := (Scalar.cmpi .ne (Scalar.extui (Scalar.cmpi .eq (BitVec.ofNat 32 (i 0).val) 0#32)) 0#32) = 1#1

/-- It holds at the first point only. -/
theorem hcond0 : ∀ t : Fin cfg0.N, cond0 (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    simp only [cond0, e0]
    word_cmp
   : ∀ t : Fin grid0.N, cond0 (grid0.coords t) ↔ t.val = 0)

/-! The staging memref of each window at point `t`. -/

abbrev ms0 (t : Fin cfg0.N) : Memref sig .tc .vmem S1920x14336 .i8 := win0_0.stage (cfg0.slots t 0)
abbrev hs0 (t : Fin cfg0.N) : (ms0 t).IsWhole := hstage0_0 ((cfg0.slots t 0).cast nbuf0_0)
abbrev ms1 (t : Fin cfg0.N) : Memref sig .tc .vmem S7168x512 .i8 := win0_1.stage (cfg0.slots t 1)
abbrev hs1 (t : Fin cfg0.N) : (ms1 t).IsWhole := hstage0_1 ((cfg0.slots t 1).cast nbuf0_1)
abbrev ms2 (t : Fin cfg0.N) : Memref sig .tc .vmem S2x56x256 .i8 := win0_2.stage (cfg0.slots t 2)
abbrev hs2 (t : Fin cfg0.N) : (ms2 t).IsWhole := hstage0_2 ((cfg0.slots t 2).cast nbuf0_2)
abbrev ms3 (t : Fin cfg0.N) : Memref sig .tc .vmem S56x1 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1920x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1920x512 .bf16 := win0_6.stage (cfg0.slots t 6)
abbrev hs6 (t : Fin cfg0.N) : (ms6 t).IsWhole := hstage0_6 ((cfg0.slots t 6).cast nbuf0_6)

/-! The scratch operands: the two tables, the decoded weights, the accumulator. -/

abbrev sc0 : Memref sig .tc .vmem S56x128 .i32 := Memref.whole cc0_scratch0
abbrev sc1 : Memref sig .tc .vmem S56x128 .i32 := Memref.whole cc0_scratch1
abbrev sc2 : Memref sig .tc .vmem S2048x512 .bf16 := Memref.whole cc0_scratch2
abbrev sc3 : Memref sig .tc .vmem S1920x512 .f32 := Memref.whole cc0_scratch3

/-- The region's invariant with every scratch operand owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

end Cert.Kernel.Hand

end
-- ==== Proof.P.Run.lean ====
/-
# The body's run, its outputs forgotten

On any whole memrefs the body runs to the end, gives its inputs back as they were and every other buffer at some
contents: at the first point (the tables built) and at the others alike.
-/
module

public import proofs.«01_k».proof.Proof.P.Kit

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

set_option maxHeartbeats 1000000 in
/-- The body's run at the first point. -/
theorem kernelRunFirst (c : Dev nD) (i : grid0.Coords) (arg1 : Memref sig .tc .vmem S1920x14336 .i8) (harg1 : arg1.IsWhole) (arg2 : Memref sig .tc .vmem S7168x512 .i8) (harg2 : arg2.IsWhole) (arg3 : Memref sig .tc .vmem S2x56x256 .i8) (harg3 : arg3.IsWhole) (arg4 : Memref sig .tc .vmem S56x1 .bf16) (harg4 : arg4.IsWhole) (arg5 : Memref sig .tc .vmem S1920x128 .f32) (harg5 : arg5.IsWhole) (arg6 : Memref sig .tc .vmem S1x512 .f32) (harg6 : arg6.IsWhole) (arg7 : Memref sig .tc .vmem S1920x512 .bf16) (harg7 : arg7.IsWhole) (arg8 : Memref sig .tc .vmem S56x128 .i32) (harg8 : arg8.IsWhole) (arg9 : Memref sig .tc .vmem S56x128 .i32) (harg9 : arg9.IsWhole) (arg10 : Memref sig .tc .vmem S2048x512 .bf16) (harg10 : arg10.IsWhole) (arg11 : Memref sig .tc .vmem S1920x512 .f32) (harg11 : arg11.IsWhole) (hc : cond0 i)
    (x0 : Vec F S1920x14336 .i8) (x1 : Vec F S7168x512 .i8) (x2 : Vec F S2x56x256 .i8) (x3 : Vec F S56x1 .bf16) (x4 : Vec F S1920x128 .f32) (x5 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_vq_matmul i arg1 harg1 arg2 harg2 arg3 harg3 arg4 harg4 arg5 harg5 arg6 harg6 arg7 harg7 arg8 harg8 arg9 harg9 arg10 harg10 arg11 harg11) K := by
    simp only [cc0_vq_matmul_eq_skeleton]; unfold cc0_vq_matmul_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

set_option maxHeartbeats 1000000 in
/-- The body's run at a later point. -/
theorem kernelRunLater (c : Dev nD) (i : grid0.Coords) (arg1 : Memref sig .tc .vmem S1920x14336 .i8) (harg1 : arg1.IsWhole) (arg2 : Memref sig .tc .vmem S7168x512 .i8) (harg2 : arg2.IsWhole) (arg3 : Memref sig .tc .vmem S2x56x256 .i8) (harg3 : arg3.IsWhole) (arg4 : Memref sig .tc .vmem S56x1 .bf16) (harg4 : arg4.IsWhole) (arg5 : Memref sig .tc .vmem S1920x128 .f32) (harg5 : arg5.IsWhole) (arg6 : Memref sig .tc .vmem S1x512 .f32) (harg6 : arg6.IsWhole) (arg7 : Memref sig .tc .vmem S1920x512 .bf16) (harg7 : arg7.IsWhole) (arg8 : Memref sig .tc .vmem S56x128 .i32) (harg8 : arg8.IsWhole) (arg9 : Memref sig .tc .vmem S56x128 .i32) (harg9 : arg9.IsWhole) (arg10 : Memref sig .tc .vmem S2048x512 .bf16) (harg10 : arg10.IsWhole) (arg11 : Memref sig .tc .vmem S1920x512 .f32) (harg11 : arg11.IsWhole) (hc : ¬cond0 i)
    (x0 : Vec F S1920x14336 .i8) (x1 : Vec F S7168x512 .i8) (x2 : Vec F S2x56x256 .i8) (x3 : Vec F S56x1 .bf16) (x4 : Vec F S1920x128 .f32) (x5 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_vq_matmul i arg1 harg1 arg2 harg2 arg3 harg3 arg4 harg4 arg5 harg5 arg6 harg6 arg7 harg7 arg8 harg8 arg9 harg9 arg10 harg10 arg11 harg11) K := by
    simp only [cc0_vq_matmul_eq_skeleton]; unfold cc0_vq_matmul_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

end Cert.Kernel.Hand

end
-- ==== Proof.P.Frame.lean ====
/-
# The kernel's frame

Proof data of the one pipeline with the output forgotten and the scratch at anything throughout; the body's
obligation at a point from the two runs; the launch; the frame claim at any values.
-/
module

public import proofs.«01_k».proof.Proof.P.Run
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The output window, of which nothing is stated. -/
def forgets : Fin 7 → Bool := fun w => w.val == 6

/-- The proof data: each input's buffer at its block, the output's unnamed, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]

/-! Each input's staging buffer holds its block at every point. -/

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ (∃ d, owns (c : Thread nD τ) (ms6 t) fullShare d))

set_option maxHeartbeats 3200000 in
/-- The body at any point: the run of the point's case, between the invariant's scratch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5]
  rw [show (dats m 0 c).Φ t.succ = Pipeline.ΦA spec0 c from rfl, show (dats m 0 c).Φ t.castSucc = Pipeline.ΦA spec0 c from rfl,
    PhiA_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, H6⟩
  by_cases hc : cond0 (grid0.coords t)
  · iapply (kernelRunFirst c (grid0.coords t) _ _ _ _ _ _ _ _ _ _ _ _ _ _ _ _ _ _ _ _ _ _ hc (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iapply (kernelRunLater c (grid0.coords t) _ _ _ _ _ _ _ _ _ _ _ _ _ _ _ _ _ _ _ _ _ _ hc (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch: the arrays no output stages end as they were, and every semaphore counter at zero. -/
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m)
    (hin := fun c => Idealize.SL.BI.Entails.refl _) (hout := fun c => Idealize.SL.BI.Entails.refl _)

/-- The frame claim, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hh => ⟨fun c => ⟨(Pipeline.RDat.FramePost.arr_in hh.1 c 0 rfl).trans ((A_eq m c 0).trans (V_main_arg0 m c)),
      (Pipeline.RDat.FramePost.arr_in hh.1 c 1 rfl).trans ((A_eq m c 1).trans (V_main_arg1 m c)),
      ((hh.1 c).2 main_arg2 (Pipeline.mem_restRefs_of main_arg2 (by decide) (by decide))).trans (V_main_arg2 m c),
      ((hh.1 c).2 main_arg3 (Pipeline.mem_restRefs_of main_arg3 (by decide) (by decide))).trans (V_main_arg3 m c),
      ((hh.1 c).2 main_arg4 (Pipeline.mem_restRefs_of main_arg4 (by decide) (by decide))).trans (V_main_arg4 m c),
      ((hh.1 c).2 main_arg5 (Pipeline.mem_restRefs_of main_arg5 (by decide) (by decide))).trans (V_main_arg5 m c)⟩, hh.2⟩) (run_main m ρ)

end Cert.Kernel.Hand

end
-- ==== Proof.PI.Kit.lean ====
/-
# What the runs share

The condition of the body's one conditional (the grid's first point), the staging and scratch memrefs, and the
region invariant with the scratch operands as memrefs.
-/
module

public import proofs.«01_k».proof.Proof.Gen.KernelIdeal.Frame
public import proofs.«01_k».proof.Proof.Gen.KernelIdeal.Loops

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The condition of the body's conditional, from the grid coordinate. -/
abbrev cond0 (i : grid0.Coords) : Prop := (Scalar.cmpi .ne (Scalar.extui (Scalar.cmpi .eq (BitVec.ofNat 32 (i 0).val) 0#32)) 0#32) = 1#1

/-- It holds at the first point only. -/
theorem hcond0 : ∀ t : Fin cfg0.N, cond0 (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    simp only [cond0, e0]
    word_cmp
   : ∀ t : Fin grid0.N, cond0 (grid0.coords t) ↔ t.val = 0)

/-! The staging memref of each window at point `t`. -/

abbrev ms0 (t : Fin cfg0.N) : Memref sig .tc .vmem S1920x14336 .i8 := win0_0.stage (cfg0.slots t 0)
abbrev hs0 (t : Fin cfg0.N) : (ms0 t).IsWhole := hstage0_0 ((cfg0.slots t 0).cast nbuf0_0)
abbrev ms1 (t : Fin cfg0.N) : Memref sig .tc .vmem S7168x512 .i8 := win0_1.stage (cfg0.slots t 1)
abbrev hs1 (t : Fin cfg0.N) : (ms1 t).IsWhole := hstage0_1 ((cfg0.slots t 1).cast nbuf0_1)
abbrev ms2 (t : Fin cfg0.N) : Memref sig .tc .vmem S2x56x256 .i8 := win0_2.stage (cfg0.slots t 2)
abbrev hs2 (t : Fin cfg0.N) : (ms2 t).IsWhole := hstage0_2 ((cfg0.slots t 2).cast nbuf0_2)
abbrev ms3 (t : Fin cfg0.N) : Memref sig .tc .vmem S56x1 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1920x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1920x512 .bf16 := win0_6.stage (cfg0.slots t 6)
abbrev hs6 (t : Fin cfg0.N) : (ms6 t).IsWhole := hstage0_6 ((cfg0.slots t 6).cast nbuf0_6)

/-! The scratch operands: the two tables, the decoded weights, the accumulator. -/

abbrev sc0 : Memref sig .tc .vmem S56x2x128 .bf16 := Memref.whole cc0_scratch0
abbrev sc1 : Memref sig .tc .vmem S56x2x128 .bf16 := Memref.whole cc0_scratch1
abbrev sc2 : Memref sig .tc .vmem S2048x512 .bf16 := Memref.whole cc0_scratch2
abbrev sc3 : Memref sig .tc .vmem S1920x512 .f32 := Memref.whole cc0_scratch3

/-- The region's invariant with every scratch operand owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

end Cert.KernelIdeal.Hand

end
-- ==== Proof.PI.Decode.lean ====
/-
# One trip of the loop: the decoded weights and the product

A trip decodes a slab of 2048 weight rows, 8 groups of 256 rows by 4 column tiles of 128, and adds to the accumulator the
product of a column slab of the codes with it. Every one of the 32 tiles is the SAME function `decode` of its two table
rows and its tile of indices: here that function, the list of a trip's 32 stores as instances of it, and the one store
to the accumulator.
-/
module

public import proofs.«01_k».proof.Proof.PI.Kit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

/-- A tile of 256 weight rows by 128 columns out of the tables' rows `t8` (codes below 128) and `t9` (codes from 128) and
    the tile of indices `ix`, two weight rows to an index. -/
def decode (t8 t9 : Vec F S1x2x128 .bf16) (ix : Vec F S128x128 .i8) : FVec F S256x128 .bf16 :=
  k0_pay18 (k0_pay10 t8) (k0_pay11 t9) (k0_pay12 t9) (k0_pay13 ix) (k0_pay14 ix) (k0_pay15 t8 ix) (k0_pay16 ix) k0_pay17

/-- The indices' offsets of column tile `n`. -/
def offIx (n : Fin 4) (k : Fin k0_t1_loop.trips) (u : BitVec 32) : Fin 2 → Nat :=
  match n with
  | 0 => k0_off2 k u
  | 1 => k0_off3 k u
  | 2 => k0_off4 k u
  | 3 => k0_off5 k u

theorem offIx_eq : ∀ (n : Fin 4) (k : Fin k0_t1_loop.trips) (u : Fin 8),
    offIx n k (BitVec.ofNat 32 u.val) = ![1024 * k.val + 128 * u.val, 128 * n.val] := by decide +kernel

theorem off1_eq : ∀ (k : Fin k0_t1_loop.trips) (u : Fin 8),
    k0_off1 k (BitVec.ofNat 32 u.val) = ![8 * k.val + u.val, 0, 0] := by decide +kernel

theorem off6_eq : ∀ (k : Fin k0_t1_loop.trips), k0_off6 k = ![0, 2048 * k.val] := by decide +kernel

theorem offIx_inb (n : Fin 4) (k : Fin k0_t1_loop.trips) (u : Fin 8) :
    ∀ a, offIx n k (BitVec.ofNat 32 u.val) a + S128x128.size a ≤ S7168x512.size a := by
  match n with
  | 0 => exact k0_off2_inb k u
  | 1 => exact k0_off3_inb k u
  | 2 => exact k0_off4_inb k u
  | 3 => exact k0_off5_inb k u

theorem tile_inb : ∀ (u : Fin 8) (n : Fin 4), ∀ a, (![256 * u.val, 128 * n.val] : Fin 2 → Nat) a + S256x128.size a ≤ S2048x512.size a := by
  decide +kernel

/-- The store of tile `(u, n)` of trip `k`. -/
def tile (arg2 : Memref sig .tc .vmem S7168x512 .i8) (arg8 arg9 : Memref sig .tc .vmem S56x2x128 .bf16)
    (X2 : BufTy.Contents (Elt F) arg2.view.ty) (X8 : BufTy.Contents (Elt F) arg8.view.ty) (X9 : BufTy.Contents (Elt F) arg9.view.ty)
    (k : Fin k0_t1_loop.trips) (u : Fin 8) (n : Fin 4) : View.Piece (Elt F) S2048x512 .bf16 :=
  ⟨Rect.unit (s := S2048x512) ![256 * u.val, 128 * n.val] S256x128.size (tile_inb u n),
    decode (View.readAt (Elt F) arg8.view (Rect.unit (s := S56x2x128) (k0_off1 k (BitVec.ofNat 32 u.val)) S1x2x128.size (k0_off1_inb k u)).toLoadRect X8)
      (View.readAt (Elt F) arg9.view (Rect.unit (s := S56x2x128) (k0_off1 k (BitVec.ofNat 32 u.val)) S1x2x128.size (k0_off1_inb k u)).toLoadRect X9)
      (View.readAt (Elt F) arg2.view (Rect.unit (s := S7168x512) (offIx n k (BitVec.ofNat 32 u.val)) S128x128.size (offIx_inb n k u)).toLoadRect X2)⟩

/-- The order of a trip's stores, last first: the groups of rows outside, the column tiles inside. -/
def lastFirst : List (Fin 32) := [31, 30, 29, 28, 27, 26, 25, 24, 23, 22, 21, 20, 19, 18, 17, 16, 15, 14, 13, 12, 11, 10, 9, 8, 7, 6, 5, 4, 3, 2, 1, 0]

theorem mem_lastFirst (p : Fin 32) : p ∈ lastFirst := by revert p; decide +kernel

/-- A trip's 32 stores of decoded weights, last first. -/
def tiles (arg2 : Memref sig .tc .vmem S7168x512 .i8) (arg8 arg9 : Memref sig .tc .vmem S56x2x128 .bf16)
    (X2 : BufTy.Contents (Elt F) arg2.view.ty) (X8 : BufTy.Contents (Elt F) arg8.view.ty) (X9 : BufTy.Contents (Elt F) arg9.view.ty)
    (k : Fin k0_t1_loop.trips) : List (View.Piece (Elt F) S2048x512 .bf16) :=
  lastFirst.map fun p => tile arg2 arg8 arg9 X2 X8 X9 k ⟨p.val / 4, by omega⟩ ⟨p.val % 4, by omega⟩

set_option maxHeartbeats 4000000 in
/-- The stores the trip was found to make to the weights' buffer are those. -/
theorem trip_tiles (𝒱 : Variants) (c : Dev nD) (bd : Option 𝒱.V) (i : grid0.Coords) (arg1 : Memref sig .tc .vmem S1920x14336 .i8) (harg1 : arg1.IsWhole) (arg2 : Memref sig .tc .vmem S7168x512 .i8) (harg2 : arg2.IsWhole) (arg3 : Memref sig .tc .vmem S2x56x256 .i8) (harg3 : arg3.IsWhole) (arg4 : Memref sig .tc .vmem S56x1 .bf16) (harg4 : arg4.IsWhole) (arg5 : Memref sig .tc .vmem S1920x128 .f32) (harg5 : arg5.IsWhole) (arg6 : Memref sig .tc .vmem S1x512 .f32) (harg6 : arg6.IsWhole) (arg7 : Memref sig .tc .vmem S1920x512 .bf16) (harg7 : arg7.IsWhole) (arg8 : Memref sig .tc .vmem S56x2x128 .bf16) (harg8 : arg8.IsWhole) (arg9 : Memref sig .tc .vmem S56x2x128 .bf16) (harg9 : arg9.IsWhole) (arg10 : Memref sig .tc .vmem S2048x512 .bf16) (harg10 : arg10.IsWhole) (arg11 : Memref sig .tc .vmem S1920x512 .f32) (harg11 : arg11.IsWhole) (X1 : BufTy.Contents (Elt F) arg1.view.ty) (X2 : BufTy.Contents (Elt F) arg2.view.ty) (X8 : BufTy.Contents (Elt F) arg8.view.ty) (X9 : BufTy.Contents (Elt F) arg9.view.ty) (k : Fin k0_t1_loop.trips) (f10 : BufTy.Contents (Elt F) arg10.view.ty) (f11 : BufTy.Contents (Elt F) arg11.view.ty) :
    (trip_k0_t1 (F := F) 𝒱 c bd i arg1 harg1 arg2 harg2 arg3 harg3 arg4 harg4 arg5 harg5 arg6 harg6 arg7 harg7 arg8 harg8 arg9 harg9 arg10 harg10 arg11 harg11 X1 X2 X8 X9 k).1 f10 f11 = tiles arg2 arg8 arg9 X2 X8 X9 k := by
  unfold trip_k0_t1
  dsimp only
  rfl

set_option maxHeartbeats 4000000 in
/-- The trip's one store to the accumulator: its contents plus the product of the codes' column slab with the decoded weights. -/
theorem trip_acc (𝒱 : Variants) (c : Dev nD) (bd : Option 𝒱.V) (i : grid0.Coords) (arg1 : Memref sig .tc .vmem S1920x14336 .i8) (harg1 : arg1.IsWhole) (arg2 : Memref sig .tc .vmem S7168x512 .i8) (harg2 : arg2.IsWhole) (arg3 : Memref sig .tc .vmem S2x56x256 .i8) (harg3 : arg3.IsWhole) (arg4 : Memref sig .tc .vmem S56x1 .bf16) (harg4 : arg4.IsWhole) (arg5 : Memref sig .tc .vmem S1920x128 .f32) (harg5 : arg5.IsWhole) (arg6 : Memref sig .tc .vmem S1x512 .f32) (harg6 : arg6.IsWhole) (arg7 : Memref sig .tc .vmem S1920x512 .bf16) (harg7 : arg7.IsWhole) (arg8 : Memref sig .tc .vmem S56x2x128 .bf16) (harg8 : arg8.IsWhole) (arg9 : Memref sig .tc .vmem S56x2x128 .bf16) (harg9 : arg9.IsWhole) (arg10 : Memref sig .tc .vmem S2048x512 .bf16) (harg10 : arg10.IsWhole) (arg11 : Memref sig .tc .vmem S1920x512 .f32) (harg11 : arg11.IsWhole) (X1 : BufTy.Contents (Elt F) arg1.view.ty) (X2 : BufTy.Contents (Elt F) arg2.view.ty) (X8 : BufTy.Contents (Elt F) arg8.view.ty) (X9 : BufTy.Contents (Elt F) arg9.view.ty) (k : Fin k0_t1_loop.trips) (f10 : BufTy.Contents (Elt F) arg10.view.ty) (f11 : BufTy.Contents (Elt F) arg11.view.ty) :
    (trip_k0_t1 (F := F) 𝒱 c bd i arg1 harg1 arg2 harg2 arg3 harg3 arg4 harg4 arg5 harg5 arg6 harg6 arg7 harg7 arg8 harg8 arg9 harg9 arg10 harg10 arg11 harg11 X1 X2 X8 X9 k).2.1 f10 f11
      = [⟨Rect.unit (s := S1920x512) ![0, 0] S1920x512.size inb_S1920x512_S1920x512_0_0,
          k0_pay200 (View.readAt (Elt F) arg11.view (Rect.unit (s := S1920x512) ![0, 0] S1920x512.size inb_S1920x512_S1920x512_0_0).toLoadRect f11)
            (k0_pay197 (View.readAt (Elt F) arg1.view (Rect.unit (s := S1920x14336) (k0_off6 k) S1920x2048.size (k0_off6_inb k)).toLoadRect X1)
              (arg10.view.readCov (tiles arg2 arg8 arg9 X2 X8 X9 k)
                (Rect.unit (s := S2048x512) ![0, 0] S2048x512.size inb_S2048x512_S2048x512_0_0).toLoadRect))⟩] := by
  unfold trip_k0_t1
  dsimp only
  rfl

end Cert.KernelIdeal.Hand

end
-- ==== Proof.PI.DecodeAt.lean ====
/-
# A decoded tile at an index

Over the extended reals, element `(r, l)` of a decoded tile is the table entry its index word names: the row's parity
picks the component, the word's top bit the table, the rest of it the lane.
-/
module

public import proofs.«01_k».proof.Proof.PI.Decode
public import Idealize.ShloMosaic.Lib.Pointwise
public import Idealize.ShloMosaic.Lib.ValueIdx

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

/-- The lane a byte names in its table row: its low seven bits. -/
theorem lane_word (w : BitVec 8) :
    (Scalar.select (IntOp.cmpi .slt (IntOp.andi (BitVec.setWidth 32 w) 127#32) 0#32)
      (IntOp.addi (IntOp.andi (BitVec.setWidth 32 w) 127#32) 128#32) (IntOp.andi (BitVec.setWidth 32 w) 127#32) : BitVec 32).toNat % 128
      = w.toNat % 128 := by
  revert w; decide +kernel

/-- The table it names: by its top bit. -/
theorem table_word (w : BitVec 8) :
    IntOp.cmpi .sge (BitVec.setWidth 32 w) 128#32 = if 128 ≤ w.toNat then 1#1 else 0#1 := by
  revert w; decide +kernel

theorem select_table {α : Type} (w : BitVec 8) (a b : α) :
    Scalar.select (IntOp.cmpi .sge (BitVec.setWidth 32 w) 128#32) a b = if 128 ≤ w.toNat then a else b := by
  rw [table_word]; split <;> rfl

set_option maxHeartbeats 1000000 in
/-- Element `(r, l)` of a decoded tile. -/
theorem decode_apply (t8 t9 : Vec Ideal S1x2x128 .bf16) (ix : Vec Ideal S128x128 .i8) (r : Fin 256) (l : Fin 128) :
    decode t8 t9 ix (ix2 r l)
      = (if 128 ≤ (ix (ix2 ⟨r.val / 2, by omega⟩ l) : BitVec 8).toNat then t9 else t8)
          (ix3 0 ⟨r.val % 2, by omega⟩ ⟨(ix (ix2 ⟨r.val / 2, by omega⟩ l) : BitVec 8).toNat % 128, by omega⟩) := by
  unfold decode
  unfold_payloads
  pointwise
  simp only [lane_word, select_table]
  rcases Nat.mod_two_eq_zero_or_one r.val with h | h
  · rw [if_pos h, show (⟨r.val % 2, by omega⟩ : Fin 2) = 0 from Fin.ext h]; split <;> rfl
  · rw [if_neg (by omega), show (⟨r.val % 2, by omega⟩ : Fin 2) = 1 from Fin.ext h]; split <;> rfl

end Cert.KernelIdeal.Hand

end
-- ==== Proof.PI.Weights.lean ====
/-
# The weights of a trip

The weights' buffer after a trip's 32 stores: row `r` of trip `k` is row `2048 k + r` of the decoded matrix, whose element
`(g, j)` is the table entry of block `g / 256` and component `g % 2` that the index word `(g / 2, j)` names.
-/
module

public import proofs.«01_k».proof.Proof.PI.DecodeAt
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

/-- The decoded weight `(g, j)` out of the two tables (codes below and from 128) and the indices. -/
def wAt (T8 T9 : Vec Ideal S56x2x128 .bf16) (IX : Vec Ideal S7168x512 .i8) (g : Fin 14336) (j : Fin 512) : Ideal .bf16 :=
  (if 128 ≤ (IX (ix2 ⟨g.val / 2, by omega⟩ j) : BitVec 8).toNat then T9 else T8)
    (ix3 ⟨g.val / 256, by omega⟩ ⟨g.val % 2, by omega⟩ ⟨(IX (ix2 ⟨g.val / 2, by omega⟩ j) : BitVec 8).toNat % 128, by omega⟩)

theorem trips_lt (k : Fin k0_t1_loop.trips) : k.val < 7 := Nat.lt_of_lt_of_le k.isLt k0_t1_abs.2.1

/-- A trip's slab of the decoded matrix. -/
def wSlab (T8 T9 : Vec Ideal S56x2x128 .bf16) (IX : Vec Ideal S7168x512 .i8) (k : Fin k0_t1_loop.trips) : Vec Ideal S2048x512 .bf16 :=
  fun y => wAt T8 T9 IX ⟨2048 * k.val + (y 0).val, by have := trips_lt k; have : (y 0).val < 2048 := (y 0).isLt; omega⟩ (y 1)

variable (arg2 : Memref sig .tc .vmem S7168x512 .i8) (arg8 arg9 : Memref sig .tc .vmem S56x2x128 .bf16)
  (X2 : BufTy.Contents (Elt Ideal) arg2.view.ty) (X8 : BufTy.Contents (Elt Ideal) arg8.view.ty) (X9 : BufTy.Contents (Elt Ideal) arg9.view.ty)
  (k : Fin k0_t1_loop.trips)

/-- Rank-three indices are equal coordinate by coordinate. -/
theorem idx_ext₃ {n : Fin 3 → ℕ} {x y : (a : Fin 3) → Fin (n a)} (h0 : (x 0 : ℕ) = y 0) (h1 : (x 1 : ℕ) = y 1) (h2 : (x 2 : ℕ) = y 2) : x = y :=
  funext fun a => Fin.ext <| match a with | ⟨0, _⟩ => h0 | ⟨1, _⟩ => h1 | ⟨2, _⟩ => h2

/-- A row of a table, read by the offsets of trip `k`, group `u`. -/
theorem row_idx (u : Fin 8) (v : Fin 2) (l : Fin 128) :
    (Rect.unit (s := S56x2x128) (k0_off1 k (BitVec.ofNat 32 u.val)) S1x2x128.size (k0_off1_inb k u)).toLoadRect.idx (ix3 0 v l)
      = ix3 ⟨8 * k.val + u.val, by have := trips_lt k; omega⟩ v l := by
  refine idx_ext₃ ?_ ?_ ?_ <;> (rw [LoadRect.idx_apply]; simp [Rect.unit, off1_eq k u])

/-- An index word, read by the offsets of trip `k`, group `u`, column tile `n`. -/
theorem ix_idx (u : Fin 8) (n : Fin 4) (r l : Fin 128) :
    (Rect.unit (s := S7168x512) (offIx n k (BitVec.ofNat 32 u.val)) S128x128.size (offIx_inb n k u)).toLoadRect.idx (ix2 r l)
      = ix2 ⟨1024 * k.val + 128 * u.val + r.val, by have := trips_lt k; omega⟩ ⟨128 * n.val + l.val, by omega⟩ := by
  refine Shape.idx_ext₂ ?_ ?_ <;> (rw [LoadRect.idx_apply]; simp [Rect.unit, offIx_eq n k u])

/-- A place of tile `(u, n)` in the slab. -/
theorem tile_emb (u : Fin 8) (n : Fin 4) (r : Fin 256) (l : Fin 128) :
    (Rect.unit (s := S2048x512) ![256 * u.val, 128 * n.val] S256x128.size (tile_inb u n)).emb (ix2 r l)
      = ix2 ⟨256 * u.val + r.val, by omega⟩ ⟨128 * n.val + l.val, by omega⟩ := by
  refine Shape.idx_ext₂ ?_ ?_ <;> (rw [Rect.emb_apply]; simp [Rect.unit])

/-- A tile's element is the decoded weight, its words and table rows being those of the whole arrays. -/
theorem wAt_of (T8 T9 : Vec Ideal S56x2x128 .bf16) (IX : Vec Ideal S7168x512 .i8) (g : Fin 14336) (j : Fin 512)
    (t8 t9 : Vec Ideal S1x2x128 .bf16) (w : BitVec 8) (r : Nat) (hw : w = (IX (ix2 ⟨g.val / 2, by omega⟩ j) : BitVec 8))
    (h8 : ∀ v l, t8 (ix3 0 v l) = T8 (ix3 ⟨g.val / 256, by omega⟩ v l)) (h9 : ∀ v l, t9 (ix3 0 v l) = T9 (ix3 ⟨g.val / 256, by omega⟩ v l))
    (hr : r % 2 = g.val % 2) :
    (if 128 ≤ w.toNat then t9 else t8) (ix3 0 ⟨r % 2, by omega⟩ ⟨w.toNat % 128, by omega⟩) = wAt T8 T9 IX g j := by
  subst hw
  unfold wAt
  split
  · rw [h9]; congr 2; exact Fin.ext hr
  · rw [h8]; congr 2; exact Fin.ext hr

/-- Tile `(u, n)` is a block of the slab. -/
theorem tile_spec (u : Fin 8) (n : Fin 4) (x : (tile arg2 arg8 arg9 X2 X8 X9 k u n).1.shape.Idx) :
    (tile arg2 arg8 arg9 X2 X8 X9 k u n).2 x
      = wSlab (arg8.view.read (Elt Ideal) X8) (arg9.view.read (Elt Ideal) X9) (arg2.view.read (Elt Ideal) X2) k
          ((tile arg2 arg8 arg9 X2 X8 X9 k u n).1.emb x) := by
  obtain ⟨r, l, rfl⟩ : ∃ (r : Fin 256) (l : Fin 128), x = ix2 r l := ⟨x 0, x 1, eq_ix2 (n0 := 256) (n1 := 128) x⟩
  have hk := trips_lt k
  unfold tile
  dsimp only
  rw [tile_emb, decode_apply]
  refine wAt_of _ _ _ _ _ _ _ _ r.val ?_ ?_ ?_ ?_
  · rw [View.readAt_apply, ix_idx]
    congr 2
    refine Fin.ext ?_
    show 1024 * k.val + 128 * u.val + r.val / 2 = (2048 * k.val + (256 * u.val + r.val)) / 2
    omega
  · intro v l
    rw [View.readAt_apply, row_idx]
    congr 2
    refine Fin.ext ?_
    show 8 * k.val + u.val = (2048 * k.val + (256 * u.val + r.val)) / 256
    omega
  · intro v l
    rw [View.readAt_apply, row_idx]
    congr 2
    refine Fin.ext ?_
    show 8 * k.val + u.val = (2048 * k.val + (256 * u.val + r.val)) / 256
    omega
  · show r.val % 2 = (2048 * k.val + (256 * u.val + r.val)) % 2
    omega

/-- The buffer's contents after a trip's stores: the slab. -/
theorem canon_tiles : View.canon (tiles arg2 arg8 arg9 X2 X8 X9 k)
    = wSlab (arg8.view.read (Elt Ideal) X8) (arg9.view.read (Elt Ideal) X9) (arg2.view.read (Elt Ideal) X2) k := by
  funext y
  refine View.canon_apply_of_pieces _ _ ?_ y ?_
  · intro p hp
    obtain ⟨q, -, rfl⟩ := List.mem_map.mp hp
    exact tile_spec _ _ _ _ _ _ _ _ _
  · obtain ⟨a, b, rfl⟩ : ∃ (a : Fin 2048) (b : Fin 512), y = ix2 a b := ⟨y 0, y 1, eq_ix2 (n0 := 2048) (n1 := 512) y⟩
    refine ⟨_, List.mem_map.mpr ⟨⟨4 * (a.val / 256) + b.val / 128, by omega⟩, mem_lastFirst _, rfl⟩, ?_⟩
    refine (Rect.mem_set_unit (inb := tile_inb _ _)).mpr fun d => ?_
    match d with
    | ⟨0, _⟩ =>
      show 256 * ((4 * (a.val / 256) + b.val / 128) / 4) ≤ a.val ∧ a.val < 256 * ((4 * (a.val / 256) + b.val / 128) / 4) + 256
      omega
    | ⟨1, _⟩ =>
      show 128 * ((4 * (a.val / 256) + b.val / 128) % 4) ≤ b.val ∧ b.val < 128 * ((4 * (a.val / 256) + b.val / 128) % 4) + 128
      omega

end Cert.KernelIdeal.Hand

end
-- ==== Proof.PI.Loop.lean ====
/-
# The accumulator over the loop

Over the extended reals, after `n` trips the accumulator's element `(i, j)` is what it was at the loop's entry plus the
sum over the first `2048 n` weight rows `g` of code `(i, g)` times decoded weight `(g, j)`.
-/
module

public import proofs.«01_k».proof.Proof.PI.Weights
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

/-- The product the sum runs over: code `(i, g)` times decoded weight `(g, j)` (zero past the last row, so that the sums are over ranges). -/
def term (CD : Vec Ideal S1920x14336 .i8) (T8 T9 : Vec Ideal S56x2x128 .bf16) (IX : Vec Ideal S7168x512 .i8) (i : Fin 1920) (j : Fin 512) (g : ℕ) : EReal :=
  if h : g < 14336 then (((CD (ix2 i ⟨g, h⟩) : BitVec 8).toInt : ℝ) : EReal) * wAt T8 T9 IX ⟨g, h⟩ j else 0

set_option maxHeartbeats 1000000 in
/-- A trip's product at an index. -/
theorem product_apply (cd : Vec Ideal S1920x2048 .i8) (w : Vec Ideal S2048x512 .bf16) (i : Fin 1920) (j : Fin 512) :
    k0_pay197 cd w (ix2 i j) = ∑ q : Fin 2048, (((cd (ix2 i q) : BitVec 8).toInt : ℝ) : EReal) * w (ix2 q j) := by
  unfold_payloads
  pointwise [dot_S1920x2048_S2048x512_S1920x512_1_0_0_1_n_n]
  rfl

set_option maxHeartbeats 1000000 in
/-- A trip's sum at an index. -/
theorem sum_apply (x y : Vec Ideal S1920x512 .f32) (i : Fin 1920) (j : Fin 512) :
    k0_pay200 x y (ix2 i j) = (x (ix2 i j) + y (ix2 i j) : EReal) := by
  unfold_payloads
  pointwise

/-- The codes' slab of trip `k`, read by its offsets. -/
theorem slab_idx (k : Fin k0_t1_loop.trips) (i : Fin 1920) (q : Fin 2048) :
    (Rect.unit (s := S1920x14336) (k0_off6 k) S1920x2048.size (k0_off6_inb k)).toLoadRect.idx (ix2 i q)
      = ix2 i ⟨2048 * k.val + q.val, by have := trips_lt k; omega⟩ := by
  refine Shape.idx_ext₂ ?_ ?_ <;> (rw [LoadRect.idx_apply]; simp [Rect.unit, off6_eq k])

/-- The whole weights' buffer, read by its own sizes. -/
theorem whole_idx (i : Fin 2048) (j : Fin 512) :
    (Rect.unit (s := S2048x512) ![0, 0] S2048x512.size inb_S2048x512_S2048x512_0_0).toLoadRect.idx (ix2 i j) = ix2 i j := by
  refine Shape.idx_ext₂ ?_ ?_ <;> (rw [LoadRect.idx_apply]; simp [Rect.unit])

theorem zero₂ : (![0, 0] : Fin 2 → ℕ) = fun _ => 0 := by decide

/-- One store of the whole accumulator leaves its payload. -/
theorem read_store (v : View sig .tc .vmem S1920x512 .f32) (f : v.ty.Contents (Elt Ideal)) (w : Vec Ideal S1920x512 .f32) :
    v.read (Elt Ideal) (v.writes (Elt Ideal) f [⟨Rect.unit (s := S1920x512) ![0, 0] S1920x512.size inb_S1920x512_S1920x512_0_0, w⟩]) = w := by
  rw [View.read_writes_eq_canon _ _ _ (fun y => ⟨_, List.mem_singleton_self _, View.mem_set_unit_zero zero₂ inb_S1920x512_S1920x512_0_0 y⟩), View.canon_unit_zero zero₂]

/-- A load of the whole accumulator. -/
theorem read_load (v : View sig .tc .vmem S1920x512 .f32) (f : v.ty.Contents (Elt Ideal)) :
    View.readAt (Elt Ideal) v (Rect.unit (s := S1920x512) ![0, 0] S1920x512.size inb_S1920x512_S1920x512_0_0).toLoadRect f = v.read (Elt Ideal) f :=
  View.readAt_full v f _

/-- A trip's product, its operands read out of the whole codes and the slab of decoded weights. -/
theorem trip_product (v1 : View sig .tc .vmem S1920x14336 .i8) (v10 : View sig .tc .vmem S2048x512 .bf16) (arg2 : Memref sig .tc .vmem S7168x512 .i8)
    (arg8 arg9 : Memref sig .tc .vmem S56x2x128 .bf16) (X1 : v1.ty.Contents (Elt Ideal)) (X2 : BufTy.Contents (Elt Ideal) arg2.view.ty)
    (X8 : BufTy.Contents (Elt Ideal) arg8.view.ty) (X9 : BufTy.Contents (Elt Ideal) arg9.view.ty) (k : Fin k0_t1_loop.trips) (a : Fin 1920) (b : Fin 512) :
    k0_pay197 (View.readAt (Elt Ideal) v1 (Rect.unit (s := S1920x14336) (k0_off6 k) S1920x2048.size (k0_off6_inb k)).toLoadRect X1)
        (v10.readCov (tiles arg2 arg8 arg9 X2 X8 X9 k) (Rect.unit (s := S2048x512) ![0, 0] S2048x512.size inb_S2048x512_S2048x512_0_0).toLoadRect) (ix2 a b)
      = ∑ q ∈ Finset.range 2048, term (v1.read (Elt Ideal) X1) (arg8.view.read (Elt Ideal) X8) (arg9.view.read (Elt Ideal) X9)
            (arg2.view.read (Elt Ideal) X2) a b (2048 * k.val + q) := by
  have hk := trips_lt k
  rw [product_apply, Finset.sum_range]
  refine Finset.sum_congr rfl fun q _ => ?_
  have hq : 2048 * k.val + q.val < 14336 := by omega
  unfold term
  rw [dif_pos hq, View.readCov_eq_canon', canon_tiles, View.readAt_apply, slab_idx]
  dsimp only
  rw [whole_idx]
  rfl

/-- One trip adds its 2048 rows' products. -/
theorem trip_read (𝒱 : Variants) (c : Dev nD) (bd : Option 𝒱.V) (i : grid0.Coords) (arg1 : Memref sig .tc .vmem S1920x14336 .i8) (harg1 : arg1.IsWhole) (arg2 : Memref sig .tc .vmem S7168x512 .i8) (harg2 : arg2.IsWhole) (arg3 : Memref sig .tc .vmem S2x56x256 .i8) (harg3 : arg3.IsWhole) (arg4 : Memref sig .tc .vmem S56x1 .bf16) (harg4 : arg4.IsWhole) (arg5 : Memref sig .tc .vmem S1920x128 .f32) (harg5 : arg5.IsWhole) (arg6 : Memref sig .tc .vmem S1x512 .f32) (harg6 : arg6.IsWhole) (arg7 : Memref sig .tc .vmem S1920x512 .bf16) (harg7 : arg7.IsWhole) (arg8 : Memref sig .tc .vmem S56x2x128 .bf16) (harg8 : arg8.IsWhole) (arg9 : Memref sig .tc .vmem S56x2x128 .bf16) (harg9 : arg9.IsWhole) (arg10 : Memref sig .tc .vmem S2048x512 .bf16) (harg10 : arg10.IsWhole) (arg11 : Memref sig .tc .vmem S1920x512 .f32) (harg11 : arg11.IsWhole)
    (X1 : BufTy.Contents (Elt Ideal) arg1.view.ty) (X2 : BufTy.Contents (Elt Ideal) arg2.view.ty) (X8 : BufTy.Contents (Elt Ideal) arg8.view.ty)
    (X9 : BufTy.Contents (Elt Ideal) arg9.view.ty) (k : Fin k0_t1_loop.trips) (f10 : BufTy.Contents (Elt Ideal) arg10.view.ty)
    (f11 : BufTy.Contents (Elt Ideal) arg11.view.ty) (a : Fin 1920) (b : Fin 512) :
    arg11.view.read (Elt Ideal) (arg11.view.writes (Elt Ideal) f11
        ((trip_k0_t1 (F := Ideal) 𝒱 c bd i arg1 harg1 arg2 harg2 arg3 harg3 arg4 harg4 arg5 harg5 arg6 harg6 arg7 harg7 arg8 harg8 arg9 harg9 arg10 harg10 arg11 harg11 X1 X2 X8 X9 k).2.1 f10 f11)) (ix2 a b)
      = (arg11.view.read (Elt Ideal) f11 (ix2 a b) : EReal)
        + ∑ q ∈ Finset.range 2048, term (arg1.view.read (Elt Ideal) X1) (arg8.view.read (Elt Ideal) X8) (arg9.view.read (Elt Ideal) X9)
            (arg2.view.read (Elt Ideal) X2) a b (2048 * k.val + q) := by
  rw [trip_acc, read_store, sum_apply, read_load, trip_product]

/-- The loop's accumulator after `n` trips. -/
theorem acc_after (𝒱 : Variants) (c : Dev nD) (bd : Option 𝒱.V) (i : grid0.Coords) (arg1 : Memref sig .tc .vmem S1920x14336 .i8) (harg1 : arg1.IsWhole) (arg2 : Memref sig .tc .vmem S7168x512 .i8) (harg2 : arg2.IsWhole) (arg3 : Memref sig .tc .vmem S2x56x256 .i8) (harg3 : arg3.IsWhole) (arg4 : Memref sig .tc .vmem S56x1 .bf16) (harg4 : arg4.IsWhole) (arg5 : Memref sig .tc .vmem S1920x128 .f32) (harg5 : arg5.IsWhole) (arg6 : Memref sig .tc .vmem S1x512 .f32) (harg6 : arg6.IsWhole) (arg7 : Memref sig .tc .vmem S1920x512 .bf16) (harg7 : arg7.IsWhole) (arg8 : Memref sig .tc .vmem S56x2x128 .bf16) (harg8 : arg8.IsWhole) (arg9 : Memref sig .tc .vmem S56x2x128 .bf16) (harg9 : arg9.IsWhole) (arg10 : Memref sig .tc .vmem S2048x512 .bf16) (harg10 : arg10.IsWhole) (arg11 : Memref sig .tc .vmem S1920x512 .f32) (harg11 : arg11.IsWhole)
    (X1 : BufTy.Contents (Elt Ideal) arg1.view.ty) (X2 : BufTy.Contents (Elt Ideal) arg2.view.ty) (X8 : BufTy.Contents (Elt Ideal) arg8.view.ty)
    (X9 : BufTy.Contents (Elt Ideal) arg9.view.ty) (G10 : BufTy.Contents (Elt Ideal) arg10.view.ty)
    (G11 : BufTy.Contents (Elt Ideal) arg11.view.ty) (a : Fin 1920) (b : Fin 512) :
    ∀ n : ℕ, n ≤ k0_t1_loop.trips →
      arg11.view.read (Elt Ideal) (arg11.view.writes (Elt Ideal) G11
        (pb_k0_t1 (F := Ideal) 𝒱 c bd i arg1 harg1 arg2 harg2 arg3 harg3 arg4 harg4 arg5 harg5 arg6 harg6 arg7 harg7 arg8 harg8 arg9 harg9 arg10 harg10 arg11 harg11 X1 X2 X8 X9 G10 G11 n).2) (ix2 a b)
      = (arg11.view.read (Elt Ideal) G11 (ix2 a b) : EReal)
        + ∑ g ∈ Finset.range (2048 * n), term (arg1.view.read (Elt Ideal) X1) (arg8.view.read (Elt Ideal) X8) (arg9.view.read (Elt Ideal) X9)
            (arg2.view.read (Elt Ideal) X2) a b g := by
  intro n
  induction n with
  | zero => intro _; show (_ : EReal) = _ + ∑ g ∈ Finset.range 0, _; rw [Finset.sum_range_zero, add_zero]; rfl
  | succ n ih =>
    intro hn
    rw [pb_k0_t1_succ 𝒱 c bd i arg1 harg1 arg2 harg2 arg3 harg3 arg4 harg4 arg5 harg5 arg6 harg6 arg7 harg7 arg8 harg8 arg9 harg9 arg10 harg10 arg11 harg11 X1 X2 X8 X9 G10 G11 ⟨n, hn⟩]
    show arg11.view.read (Elt Ideal) (arg11.view.writes (Elt Ideal) G11 (_ ++ _)) (ix2 a b) = _
    rw [View.writes_append, trip_read, ih (Nat.le_of_succ_le hn), Nat.mul_succ, Finset.sum_range_add, add_assoc]

end Cert.KernelIdeal.Hand

end
-- ==== Proof.PI.Values.lean ====
/-
# What a point leaves

The two tables as functions of the codebook and its scales, and a point's output block as a function of its operands: here
the payloads of the table build and of the epilogue, read at an index.
-/
module

public import proofs.«01_k».proof.Proof.PI.Loop

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

/-- Table `h` (codes from `128 h`): entry `(b, v, l)` is component `v` of code word `128 h + l` of block `b`, times the block's scale. -/
def table (h : Fin 2) (CB : Vec Ideal S2x56x256 .i8) (SC : Vec Ideal S56x1 .bf16) : Vec Ideal S56x2x128 .bf16 :=
  fun y => ((((CB (ix3 (y 1) (y 0) ⟨128 * h.val + (y 2).val, by have : (y 2).val < 128 := (y 2).isLt; omega⟩) : BitVec 8).toInt : ℝ) : EReal)
    * (SC (ix2 (y 0) 0) : EReal) : EReal)

/-- A point's output block: the sum over all the weight rows, times the row's scale, times the column's. -/
def outBlk (CD : Vec Ideal S1920x14336 .i8) (IX : Vec Ideal S7168x512 .i8) (T8 T9 : Vec Ideal S56x2x128 .bf16) (XS : Vec Ideal S1920x128 .f32)
    (OS : Vec Ideal S1x512 .f32) : Vec Ideal S1920x512 .bf16 :=
  fun y => ((∑ g ∈ Finset.range 14336, term CD T8 T9 IX (y 0) (y 1) g) * (XS (ix2 (y 0) ⟨(y 1).val % 128, Nat.mod_lt _ (by decide)⟩) : EReal)
    * (OS (ix2 0 (y 1)) : EReal) : EReal)

set_option maxHeartbeats 1000000 in
/-- The epilogue at an index. -/
theorem scaled_apply (a : Vec Ideal S1920x128 .f32) (x : Vec Ideal S1920x128 .f32) (o : Vec Ideal S1x128 .f32) (i : Fin 1920) (l : Fin 128) :
    k0_pay1 a x o (ix2 i l) = (a (ix2 i l) * x (ix2 i l) * o (ix2 0 l) : EReal) := by
  unfold_payloads
  pointwise

set_option maxHeartbeats 1000000 in
/-- A table's build at an index. -/
theorem build_apply (s : Vec Ideal S56x1 .bf16) (p q : Vec Ideal S1x56x128 .i8) (b : Fin 56) (v : Fin 2) (l : Fin 128) :
    k0_pay4 s p q (ix3 b v l)
      = (((((if v = 0 then p else q) (ix3 0 b l) : BitVec 8).toInt : ℝ) : EReal) * (s (ix2 b 0) : EReal) : EReal) := by
  unfold_payloads
  pointwise
  match v with
  | ⟨0, _⟩ => rfl
  | ⟨1, _⟩ => rfl

end Cert.KernelIdeal.Hand

end
-- ==== Proof.PI.Epilogue.lean ====
/-
# The accumulator, the output block and the tables, read whole

What the body's stores leave when they are read back: the accumulator the sum over all trips, the output window that sum
scaled by row and column, each table its entries.
-/
module

public import proofs.«01_k».proof.Proof.PI.Values

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

/-- A product of accumulator, row scale and column scale, entry by entry. -/
def scaled (A : S1920x512.Idx → Ideal .f32) (XS : Vec Ideal S1920x128 .f32) (OS : Vec Ideal S1x512 .f32) : Vec Ideal S1920x512 .bf16 :=
  fun y => ((A y : EReal) * (XS (ix2 (y 0) ⟨(y 1).val % 128, Nat.mod_lt _ (by decide)⟩) : EReal) * (OS (ix2 0 (y 1)) : EReal) : EReal)

/-- Column `o` of a tile's rectangle. -/
theorem col_emb (o : ℕ) (inb : ∀ a, ![0, o] a + S1920x128.size a ≤ S1920x512.size a) (i : Fin 1920) (l : Fin 128) (h : o + l.val < 512) :
    (Rect.unit (s := S1920x512) ![0, o] S1920x128.size inb).emb (ix2 i l) = ix2 i ⟨o + l.val, h⟩ := by
  apply Shape.idx_ext₂
  · rw [Rect.emb_apply]; show 0 + 1 * i.val = i.val; omega
  · rw [Rect.emb_apply]; show o + 1 * l.val = o + l.val; omega

/-- Column `o` of the row of column scales. -/
theorem scale_idx (o : ℕ) (inb : ∀ a, ![0, o] a + S1x128.size a ≤ S1x512.size a) (l : Fin 128) (h : o + l.val < 512) :
    (Rect.unit (s := S1x512) ![0, o] S1x128.size inb).toLoadRect.idx (ix2 0 l) = ix2 0 ⟨o + l.val, h⟩ := by
  apply Shape.idx_ext₂
  · rw [LoadRect.idx_apply]; show 0 + 1 * 0 = 0; omega
  · rw [LoadRect.idx_apply]; show o + 1 * l.val = o + l.val; omega

/-- A tile of 128 columns the epilogue stores is that tile of `scaled`. -/
theorem piece_apply (A : S1920x512.Idx → Ideal .f32) (o : ℕ) (ho : o % 128 = 0) (ho' : o ≤ 384)
    (inb : ∀ a, ![0, o] a + S1920x128.size a ≤ S1920x512.size a) (inb' : ∀ a, ![0, o] a + S1x128.size a ≤ S1x512.size a)
    (v5 : View sig .tc .vmem S1920x128 .f32) (v6 : View sig .tc .vmem S1x512 .f32) (f4 : v5.ty.Contents (Elt Ideal)) (f5 : v6.ty.Contents (Elt Ideal))
    (j : S1920x128.Idx) :
    k0_pay1 (fun j => A ((Rect.unit (s := S1920x512) ![0, o] S1920x128.size inb).toLoadRect.idx j))
        (View.readAt (Elt Ideal) v5 (Rect.unit (s := S1920x128) ![0, 0] S1920x128.size inb_S1920x128_S1920x128_0_0).toLoadRect f4)
        (View.readAt (Elt Ideal) v6 (Rect.unit (s := S1x512) ![0, o] S1x128.size inb').toLoadRect f5) j
      = scaled A (v5.read (Elt Ideal) f4) (v6.read (Elt Ideal) f5) ((Rect.unit (s := S1920x512) ![0, o] S1920x128.size inb).emb j) := by
  obtain ⟨i, l, rfl⟩ : ∃ i l, j = ix2 i l := ⟨_, _, eq_ix2 (n0 := 1920) (n1 := 128) j⟩
  have h : o + l.val < 512 := by have := l.isLt; omega
  have hm : (o + l.val) % 128 = l.val := by have := l.isLt; omega
  have hfin : (⟨(o + l.val) % 128, Nat.mod_lt _ (by decide)⟩ : Fin 128) = l := Fin.ext hm
  rw [scaled_apply, View.readAt_full, View.readAt_apply, scale_idx o inb' l h, col_emb o inb i l h]
  have e : (Rect.unit (s := S1920x512) ![0, o] S1920x128.size inb).toLoadRect.idx (ix2 i l) = ix2 i ⟨o + l.val, h⟩ := col_emb o inb i l h
  show (A _ * _ * _ : EReal) = (A _ * v5.read (Elt Ideal) f4 (ix2 i ⟨(o + l.val) % 128, _⟩) * _ : EReal)
  rw [hfin, e]
  rfl

/-- A column lies in the tile that holds it. -/
theorem col_mem (o : ℕ) (inb : ∀ a, ![0, o] a + S1920x128.size a ≤ S1920x512.size a) (y : S1920x512.Idx) (h : o ≤ (y 1).val) (h' : (y 1).val < o + 128) :
    y ∈ (Rect.unit (s := S1920x512) ![0, o] S1920x128.size inb).set := by
  rw [Rect.mem_set_unit]
  intro a
  match a with
  | ⟨0, _⟩ => exact ⟨Nat.zero_le _, by have : (y 0).val < 1920 := (y 0).isLt; show (y 0).val < 0 + 1920; omega⟩
  | ⟨1, _⟩ => exact ⟨h, h'⟩

/-- The four tiles cover the output block. -/
theorem out_cover (p q r t : S1920x128.Idx → Ideal .bf16) (y : S1920x512.Idx) :
    ∃ P ∈ ([⟨Rect.unit (s := S1920x512) ![0, 384] S1920x128.size inb_S1920x512_S1920x128_0_384, p⟩, ⟨Rect.unit (s := S1920x512) ![0, 256] S1920x128.size inb_S1920x512_S1920x128_0_256, q⟩,
        ⟨Rect.unit (s := S1920x512) ![0, 128] S1920x128.size inb_S1920x512_S1920x128_0_128, r⟩, ⟨Rect.unit (s := S1920x512) ![0, 0] S1920x128.size inb_S1920x512_S1920x128_0_0, t⟩]
        : List (View.Piece (Elt Ideal) S1920x512 .bf16)), y ∈ P.1.set := by
  have hy : (y 1).val < 512 := (y 1).isLt
  by_cases h3 : 384 ≤ (y 1).val
  · exact ⟨_, .head _, col_mem 384 inb_S1920x512_S1920x128_0_384 y h3 (by omega)⟩
  by_cases h2 : 256 ≤ (y 1).val
  · exact ⟨_, .tail _ (.head _), col_mem 256 inb_S1920x512_S1920x128_0_256 y h2 (by omega)⟩
  by_cases h1 : 128 ≤ (y 1).val
  · exact ⟨_, .tail _ (.tail _ (.head _)), col_mem 128 inb_S1920x512_S1920x128_0_128 y h1 (by omega)⟩
  · exact ⟨_, .tail _ (.tail _ (.tail _ (.head _))), col_mem 0 inb_S1920x512_S1920x128_0_0 y (Nat.zero_le _) (by omega)⟩

/-- The epilogue's four tiles, over whatever the output window held, leave `scaled` of the accumulator. -/
theorem out_read (L : List (View.Piece (Elt Ideal) S1920x512 .f32)) (A : S1920x512.Idx → Ideal .f32) (hA : View.canon L = A) (v11 : View sig .tc .vmem S1920x512 .f32)
    (v5 : View sig .tc .vmem S1920x128 .f32) (v6 : View sig .tc .vmem S1x512 .f32) (v7 : View sig .tc .vmem S1920x512 .bf16)
    (f4 : v5.ty.Contents (Elt Ideal)) (f5 : v6.ty.Contents (Elt Ideal)) (f6 : v7.ty.Contents (Elt Ideal)) :
    v7.read (Elt Ideal) (v7.writes (Elt Ideal) f6
        [⟨Rect.unit (s := S1920x512) ![0, 384] S1920x128.size inb_S1920x512_S1920x128_0_384,
            k0_pay2 (v11.readCov L (Rect.unit (s := S1920x512) ![0, 384] S1920x128.size inb_S1920x512_S1920x128_0_384).toLoadRect)
              (View.readAt (Elt Ideal) v5 (Rect.unit (s := S1920x128) ![0, 0] S1920x128.size inb_S1920x128_S1920x128_0_0).toLoadRect f4)
              (View.readAt (Elt Ideal) v6 (Rect.unit (s := S1x512) ![0, 384] S1x128.size inb_S1x512_S1x128_0_384).toLoadRect f5)⟩,
          ⟨Rect.unit (s := S1920x512) ![0, 256] S1920x128.size inb_S1920x512_S1920x128_0_256,
            k0_pay1 (v11.readCov L (Rect.unit (s := S1920x512) ![0, 256] S1920x128.size inb_S1920x512_S1920x128_0_256).toLoadRect)
              (View.readAt (Elt Ideal) v5 (Rect.unit (s := S1920x128) ![0, 0] S1920x128.size inb_S1920x128_S1920x128_0_0).toLoadRect f4)
              (View.readAt (Elt Ideal) v6 (Rect.unit (s := S1x512) ![0, 256] S1x128.size inb_S1x512_S1x128_0_256).toLoadRect f5)⟩,
          ⟨Rect.unit (s := S1920x512) ![0, 128] S1920x128.size inb_S1920x512_S1920x128_0_128,
            k0_pay202 (v11.readCov L (Rect.unit (s := S1920x512) ![0, 128] S1920x128.size inb_S1920x512_S1920x128_0_128).toLoadRect)
              (View.readAt (Elt Ideal) v5 (Rect.unit (s := S1920x128) ![0, 0] S1920x128.size inb_S1920x128_S1920x128_0_0).toLoadRect f4)
              (View.readAt (Elt Ideal) v6 (Rect.unit (s := S1x512) ![0, 128] S1x128.size inb_S1x512_S1x128_0_128).toLoadRect f5)⟩,
          ⟨Rect.unit (s := S1920x512) ![0, 0] S1920x128.size inb_S1920x512_S1920x128_0_0,
            k0_pay201 (v11.readCov L (Rect.unit (s := S1920x512) ![0, 0] S1920x128.size inb_S1920x512_S1920x128_0_0).toLoadRect)
              (View.readAt (Elt Ideal) v5 (Rect.unit (s := S1920x128) ![0, 0] S1920x128.size inb_S1920x128_S1920x128_0_0).toLoadRect f4)
              (View.readAt (Elt Ideal) v6 (Rect.unit (s := S1x512) ![0, 0] S1x128.size inb_S1x512_S1x128_0_0).toLoadRect f5)⟩])
      = scaled A (v5.read (Elt Ideal) f4) (v6.read (Elt Ideal) f5) := by
  subst hA
  simp only [View.readCov_eq_canon']
  funext y
  rw [View.read_writes_apply_eq_canon]
  · refine View.canon_apply_of_pieces _ _ (fun p hp => ?_) y (out_cover _ _ _ _ y)
    rcases List.mem_cons.mp hp with rfl | hp
    · exact piece_apply _ 384 rfl (by omega) inb_S1920x512_S1920x128_0_384 inb_S1x512_S1x128_0_384 v5 v6 f4 f5
    rcases List.mem_cons.mp hp with rfl | hp
    · exact piece_apply _ 256 rfl (by omega) inb_S1920x512_S1920x128_0_256 inb_S1x512_S1x128_0_256 v5 v6 f4 f5
    rcases List.mem_cons.mp hp with rfl | hp
    · exact piece_apply _ 128 rfl (by omega) inb_S1920x512_S1920x128_0_128 inb_S1x512_S1x128_0_128 v5 v6 f4 f5
    rcases List.mem_cons.mp hp with rfl | hp
    · exact piece_apply _ 0 rfl (by omega) inb_S1920x512_S1920x128_0_0 inb_S1x512_S1x128_0_0 v5 v6 f4 f5
    · exact absurd hp List.not_mem_nil
  · exact out_cover _ _ _ _ y
/-- The accumulator as the epilogue finds it: cleared, then all the trips' sums. -/
theorem acc_canon (c : Dev nD) (i : grid0.Coords) (arg1 : Memref sig .tc .vmem S1920x14336 .i8) (harg1 : arg1.IsWhole) (arg2 : Memref sig .tc .vmem S7168x512 .i8) (harg2 : arg2.IsWhole) (arg3 : Memref sig .tc .vmem S2x56x256 .i8) (harg3 : arg3.IsWhole) (arg4 : Memref sig .tc .vmem S56x1 .bf16) (harg4 : arg4.IsWhole) (arg5 : Memref sig .tc .vmem S1920x128 .f32) (harg5 : arg5.IsWhole) (arg6 : Memref sig .tc .vmem S1x512 .f32) (harg6 : arg6.IsWhole) (arg7 : Memref sig .tc .vmem S1920x512 .bf16) (harg7 : arg7.IsWhole) (arg8 : Memref sig .tc .vmem S56x2x128 .bf16) (harg8 : arg8.IsWhole) (arg9 : Memref sig .tc .vmem S56x2x128 .bf16) (harg9 : arg9.IsWhole) (arg10 : Memref sig .tc .vmem S2048x512 .bf16) (harg10 : arg10.IsWhole) (arg11 : Memref sig .tc .vmem S1920x512 .f32) (harg11 : arg11.IsWhole)
    (X1 : BufTy.Contents (Elt Ideal) arg1.view.ty) (X2 : BufTy.Contents (Elt Ideal) arg2.view.ty) (X8 : BufTy.Contents (Elt Ideal) arg8.view.ty)
    (X9 : BufTy.Contents (Elt Ideal) arg9.view.ty) (G10 : BufTy.Contents (Elt Ideal) arg10.view.ty) :
    View.canon ((pb_k0_t1 (F := Ideal) Variants.none c none i arg1 harg1 arg2 harg2 arg3 harg3 arg4 harg4 arg5 harg5 arg6 harg6 arg7 harg7 arg8 harg8 arg9 harg9 arg10 harg10 arg11 harg11 X1 X2 X8 X9 G10
        (arg11.view.writes (Elt Ideal) arg11.view.junk [⟨Rect.unit (s := S1920x512) ![0, 0] S1920x512.size inb_S1920x512_S1920x512_0_0, k0_pay199 (F := Ideal)⟩])
        (Scf.trips k0_t1_loop.lb k0_t1_loop.ub k0_t1_loop.st)).2
          ++ [⟨Rect.unit (s := S1920x512) ![0, 0] S1920x512.size inb_S1920x512_S1920x512_0_0, k0_pay199 (F := Ideal)⟩])
      = fun y => (∑ g ∈ Finset.range 14336, term (arg1.view.read (Elt Ideal) X1) (arg8.view.read (Elt Ideal) X8) (arg9.view.read (Elt Ideal) X9)
            (arg2.view.read (Elt Ideal) X2) (y 0) (y 1) g : EReal) := by
  funext y
  obtain ⟨a, b, rfl⟩ : ∃ a b, y = ix2 a b := ⟨_, _, eq_ix2 (n0 := 1920) (n1 := 512) y⟩
  rw [← View.read_writes_junk_apply_eq_canon arg11.view, View.writes_append]
  refine (acc_after Variants.none c none i arg1 harg1 arg2 harg2 arg3 harg3 arg4 harg4 arg5 harg5 arg6 harg6 arg7 harg7 arg8 harg8 arg9 harg9 arg10 harg10 arg11 harg11 X1 X2 X8 X9 G10 _ a b k0_t1_loop.trips le_rfl).trans ?_
  rw [read_store]
  have h0 : (k0_pay199 (F := Ideal) (ix2 a b) : EReal) = 0 := by
    unfold_payloads
    pointwise
  have ht : 2048 * k0_t1_loop.trips = 14336 := by decide
  rw [h0, zero_add, ht]
  rfl

/-- A table as it is stored, from loads of the codebook and of its scales. -/
theorem table_read (h : Fin 2) (inb₀ inb₁) (v3 : View sig .tc .vmem S2x56x256 .i8) (v4 : View sig .tc .vmem S56x1 .bf16) (v : View sig .tc .vmem S56x2x128 .bf16)
    (f2 : v3.ty.Contents (Elt Ideal)) (f3 : v4.ty.Contents (Elt Ideal)) (f : v.ty.Contents (Elt Ideal)) :
    v.read (Elt Ideal) (v.writes (Elt Ideal) f [⟨Rect.unit (s := S56x2x128) ![0, 0, 0] S56x2x128.size inb_S56x2x128_S56x2x128_0_0_0,
        k0_pay4 (View.readAt (Elt Ideal) v4 (Rect.unit (s := S56x1) ![0, 0] S56x1.size inb_S56x1_S56x1_0_0).toLoadRect f3)
          (View.readAt (Elt Ideal) v3 (Rect.unit (s := S2x56x256) ![0, 0, 128 * h.val] S1x56x128.size inb₀).toLoadRect f2)
          (View.readAt (Elt Ideal) v3 (Rect.unit (s := S2x56x256) ![1, 0, 128 * h.val] S1x56x128.size inb₁).toLoadRect f2)⟩])
      = table h (v3.read (Elt Ideal) f2) (v4.read (Elt Ideal) f3) := by
  have zero₃ : (![0, 0, 0] : Fin 3 → ℕ) = fun _ => 0 := by decide
  rw [View.read_writes_eq_canon _ _ _ (fun y => ⟨_, List.mem_singleton_self _, View.mem_set_unit_zero zero₃ inb_S56x2x128_S56x2x128_0_0_0 y⟩), View.canon_unit_zero zero₃]
  funext y
  obtain ⟨b, w, l, rfl⟩ : ∃ b w l, y = ix3 b w l := ⟨_, _, _, eq_ix3 (n0 := 56) (n1 := 2) (n2 := 128) y⟩
  rw [build_apply, View.readAt_full]
  have hl : 128 * h.val + l.val < 256 := by have := h.isLt; have := l.isLt; omega
  have key : ∀ (k : ℕ) (hk : k < 2) (inb : ∀ a, ![k, 0, 128 * h.val] a + S1x56x128.size a ≤ S2x56x256.size a),
      (Rect.unit (s := S2x56x256) ![k, 0, 128 * h.val] S1x56x128.size inb).toLoadRect.idx (ix3 0 b l) = ix3 ⟨k, hk⟩ b ⟨128 * h.val + l.val, hl⟩ := by
    intro k hk inb
    apply idx_ext₃
    · rw [LoadRect.idx_apply]; show k + 1 * 0 = k; omega
    · rw [LoadRect.idx_apply]; show 0 + 1 * b.val = b.val; omega
    · rw [LoadRect.idx_apply]; show 128 * h.val + 1 * l.val = 128 * h.val + l.val; omega
  revert w
  rw [Fin.forall_fin_two]
  constructor
  · show (_ * _ : EReal) = _ * _
    rw [if_pos rfl, View.readAt_apply, key 0 (by omega)]; rfl
  · show (_ * _ : EReal) = _ * _
    rw [if_neg (by decide), View.readAt_apply, key 1 (by omega)]; rfl

end Cert.KernelIdeal.Hand

end
-- ==== Proof.PI.Run.lean ====
/-
# The body's runs, with their values

On any whole memrefs the body runs to the end and leaves in the output window the block `outBlk` of its operands and the
tables: at the first point the tables it built, at a later point those it found.
-/
module

public import proofs.«01_k».proof.Proof.PI.Epilogue

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

local notation "𝕄" => MT nD τ sig Unit (Elt Ideal) ℕ (UR sig nD τ) ℕ

set_option maxHeartbeats 2000000 in
/-- The body's run at the first point: the tables are built. -/
theorem kernelRunFirst (c : Dev nD) (i : grid0.Coords) (arg1 : Memref sig .tc .vmem S1920x14336 .i8) (harg1 : arg1.IsWhole) (arg2 : Memref sig .tc .vmem S7168x512 .i8) (harg2 : arg2.IsWhole) (arg3 : Memref sig .tc .vmem S2x56x256 .i8) (harg3 : arg3.IsWhole) (arg4 : Memref sig .tc .vmem S56x1 .bf16) (harg4 : arg4.IsWhole) (arg5 : Memref sig .tc .vmem S1920x128 .f32) (harg5 : arg5.IsWhole) (arg6 : Memref sig .tc .vmem S1x512 .f32) (harg6 : arg6.IsWhole) (arg7 : Memref sig .tc .vmem S1920x512 .bf16) (harg7 : arg7.IsWhole) (arg8 : Memref sig .tc .vmem S56x2x128 .bf16) (harg8 : arg8.IsWhole) (arg9 : Memref sig .tc .vmem S56x2x128 .bf16) (harg9 : arg9.IsWhole) (arg10 : Memref sig .tc .vmem S2048x512 .bf16) (harg10 : arg10.IsWhole) (arg11 : Memref sig .tc .vmem S1920x512 .f32) (harg11 : arg11.IsWhole) (hc : cond0 i)
    (x0 : Vec Ideal S1920x14336 .i8) (x1 : Vec Ideal S7168x512 .i8) (x2 : Vec Ideal S2x56x256 .i8) (x3 : Vec Ideal S56x1 .bf16) (x4 : Vec Ideal S1920x128 .f32) (x5 : Vec Ideal S1x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outBlk x0 x1 (table 0 x2 x3) (table 1 x2 x3) x4 x5) ∗ owns (c : Thread nD τ) arg8 fullShare (table 0 x2 x3) ∗ owns (c : Thread nD τ) arg9 fullShare (table 1 x2 x3) ∗ (∃ d, owns (c : Thread nD τ) arg10 fullShare d) ∗ (∃ d, owns (c : Thread nD τ) arg11 fullShare d)) -∗ K ⟨⟩))
      ⊢ wp frame (wpE (defs₀ (F := Ideal)) Variants.none c none) E (cc0_vq_matmul i arg1 harg1 arg2 harg2 arg3 harg3 arg4 harg4 arg5 harg5 arg6 harg6 arg7 harg7 arg8 harg8 arg9 harg9 arg10 harg10 arg11 harg11) K := by
    simp only [cc0_vq_matmul_eq_skeleton]; unfold cc0_vq_matmul_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      unfold kernelRunFirst.sl.v38 kernelRunFirst.sl.v28 kernelRunFirst.sl.v18 kernelRunFirst.sl.v8 kernelRunFirst.sl.H10_1 kernelRunFirst.sl.H7_1 kernelRunFirst.sl.H8_1
      refine (out_read _ _ (acc_canon c i arg1 harg1 arg2 harg2 arg3 harg3 arg4 harg4 arg5 harg5 arg6 harg6 arg7 harg7 arg8 harg8 arg9 harg9 arg10 harg10 arg11 harg11 _ _ _ _ _) arg11.view arg5.view arg6.view arg7.view _ _ _).trans ?_
      unfold kernelRunFirst.sl.r kernelRunFirst.sl.r_1
      have t0 := table_read 0 inb_S2x56x256_S1x56x128_0_0_0 inb_S2x56x256_S1x56x128_1_0_0 arg3.view arg4.view arg8.view (harg3.unread x2) (harg4.unread x3) arg8.view.junk
      have t1 := table_read 1 inb_S2x56x256_S1x56x128_0_0_128 inb_S2x56x256_S1x56x128_1_0_128 arg3.view arg4.view arg9.view (harg3.unread x2) (harg4.unread x3) arg9.view.junk
      rw [harg3.read_unread, harg4.read_unread] at t0 t1
      rw [harg1.read_unread, harg2.read_unread, harg5.read_unread, harg6.read_unread]
      exact congrArg₂ (fun T8 T9 => scaled (fun y => (∑ g ∈ Finset.range 14336, term x0 T8 T9 x1 (y 0) (y 1) g : EReal)) x4 x5) t0 t1
    isplitl [H7]
    · iexists _; isplitr; swap; · iexact H7
      ipureintro
      unfold kernelRunFirst.sl.H7_1
      refine (table_read 0 _ _ arg3.view arg4.view arg8.view _ _ _).trans ?_
      simp only [Memref.IsWhole.read_unread]
    isplitl [H8]
    · iexists _; isplitr; swap; · iexact H8
      ipureintro
      unfold kernelRunFirst.sl.H8_1 kernelRunFirst.sl.r kernelRunFirst.sl.r_1
      refine (table_read 1 _ _ arg3.view arg4.view arg9.view _ _ _).trans ?_
      simp only [Memref.IsWhole.read_unread]
    isplitl [H9]
    · iexists _, _; isplitr; swap; · iexact H9
      ipureintro; rfl
    iexists _, _; isplitr; swap; · iexact H10
    ipureintro; rfl

set_option maxHeartbeats 2000000 in
/-- The body's run at a later point: the tables are those the first built. -/
theorem kernelRunLater (c : Dev nD) (i : grid0.Coords) (arg1 : Memref sig .tc .vmem S1920x14336 .i8) (harg1 : arg1.IsWhole) (arg2 : Memref sig .tc .vmem S7168x512 .i8) (harg2 : arg2.IsWhole) (arg3 : Memref sig .tc .vmem S2x56x256 .i8) (harg3 : arg3.IsWhole) (arg4 : Memref sig .tc .vmem S56x1 .bf16) (harg4 : arg4.IsWhole) (arg5 : Memref sig .tc .vmem S1920x128 .f32) (harg5 : arg5.IsWhole) (arg6 : Memref sig .tc .vmem S1x512 .f32) (harg6 : arg6.IsWhole) (arg7 : Memref sig .tc .vmem S1920x512 .bf16) (harg7 : arg7.IsWhole) (arg8 : Memref sig .tc .vmem S56x2x128 .bf16) (harg8 : arg8.IsWhole) (arg9 : Memref sig .tc .vmem S56x2x128 .bf16) (harg9 : arg9.IsWhole) (arg10 : Memref sig .tc .vmem S2048x512 .bf16) (harg10 : arg10.IsWhole) (arg11 : Memref sig .tc .vmem S1920x512 .f32) (harg11 : arg11.IsWhole) (hc : ¬cond0 i)
    (x0 : Vec Ideal S1920x14336 .i8) (x1 : Vec Ideal S7168x512 .i8) (x2 : Vec Ideal S2x56x256 .i8) (x3 : Vec Ideal S56x1 .bf16) (x4 : Vec Ideal S1920x128 .f32) (x5 : Vec Ideal S1x512 .f32) (T8 T9 : Vec Ideal S56x2x128 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare T8 ∗ owns (c : Thread nD τ) arg9 fullShare T9 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outBlk x0 x1 T8 T9 x4 x5) ∗ owns (c : Thread nD τ) arg8 fullShare T8 ∗ owns (c : Thread nD τ) arg9 fullShare T9 ∗ (∃ d, owns (c : Thread nD τ) arg10 fullShare d) ∗ (∃ d, owns (c : Thread nD τ) arg11 fullShare d)) -∗ K ⟨⟩))
      ⊢ wp frame (wpE (defs₀ (F := Ideal)) Variants.none c none) E (cc0_vq_matmul i arg1 harg1 arg2 harg2 arg3 harg3 arg4 harg4 arg5 harg5 arg6 harg6 arg7 harg7 arg8 harg8 arg9 harg9 arg10 harg10 arg11 harg11) K := by
    simp only [cc0_vq_matmul_eq_skeleton]; unfold cc0_vq_matmul_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      unfold kernelRunLater.sl.v38 kernelRunLater.sl.v28 kernelRunLater.sl.v18 kernelRunLater.sl.v8 kernelRunLater.sl.H10_1
      refine (out_read _ _ (acc_canon c i arg1 harg1 arg2 harg2 arg3 harg3 arg4 harg4 arg5 harg5 arg6 harg6 arg7 harg7 arg8 harg8 arg9 harg9 arg10 harg10 arg11 harg11 _ _ _ _ _) arg11.view arg5.view arg6.view arg7.view _ _ _).trans ?_
      simp only [Memref.IsWhole.read_unread]
      rfl
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    iexists _, _; isplitr; swap; · iexact H10
    ipureintro; rfl

end Cert.KernelIdeal.Hand

end
-- ==== Proof.PI.Frame.lean ====
/-
# The idealized kernel's run

Proof data of the one pipeline: the output's block is `outBlk` of the point's blocks and the two tables, and from the
first point on the two table scratches hold the tables; the body's obligation at a point from the two runs; the launch;
the frame claim and the arrays' contents at the end.
-/
module

public import proofs.«01_k».proof.Proof.PI.Run
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- Point `t`'s tables: the codebook and its scales are staged whole, so every point's are the same. -/
def tbl (h : Fin 2) (c : Dev nD) (t : Fin cfg0.N) : Vec Ideal S56x2x128 .bf16 := table h (iblk m c 2 t) (iblk m c 3 t)

/-- Point `t`'s output block. -/
def outAt (c : Dev nD) (t : Fin cfg0.N) : Vec Ideal S1920x512 .bf16 :=
  outBlk (iblk m c 0 t) (iblk m c 1 t) (tbl m 0 c t) (tbl m 1 c t) (iblk m c 4 t) (iblk m c 5 t)

/-- The invariant before position `n`: the scratch at anything before the first point, afterwards the two tables at the
    first point's and the other two at anything. -/
def PhiS (c : Dev nD) : (n : ℕ) → n ≤ cfg0.N → sProp 𝕄
  | 0, _ => Pipeline.ΦA spec0 c
  | n + 1, hn => iprop(iprop(owns (c : Thread nD τ) sc0 fullShare (tbl m 0 c ⟨n, hn⟩) ∗ owns (c : Thread nD τ) sc1 fullShare (tbl m 1 c ⟨n, hn⟩)
      ∗ (∃ d, owns (c : Thread nD τ) sc2 fullShare d) ∗ (∃ d, owns (c : Thread nD τ) sc3 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc0 fullShare (tbl m 0 c ⟨n, hn⟩) ∗ owns (c : Thread nD τ) sc1 fullShare (tbl m 1 c ⟨n, hn⟩)
      ∗ (∃ d, owns (c : Thread nD τ) sc2 fullShare d) ∗ (∃ d, owns (c : Thread nD τ) sc3 fullShare d)) ∗ (∃ r, prngReg c r)) := rfl

/-- The codebook's block is the same at every point, -/
theorem iblk_2 (c : Dev nD) (t t' : Fin cfg0.N) : (iblk m c 2 t : Vec Ideal S2x56x256 .i8) = iblk m c 2 t' := rfl
/-- and so are the scales'. -/
theorem iblk_3 (c : Dev nD) (t t' : Fin cfg0.N) : (iblk m c 3 t : Vec Ideal S56x1 .bf16) = iblk m c 3 t' := rfl

theorem tbl_eq (h : Fin 2) (c : Dev nD) (t t' : Fin cfg0.N) : tbl m h c t = tbl m h c t' := by
  unfold tbl; rw [iblk_2 m c t t', iblk_3 m c t t']

theorem PhiS_pos (c : Dev nD) (t : Fin cfg0.N) (hz : t.val ≠ 0) :
    PhiS m c t.val (Nat.le_of_lt t.isLt) = iprop(iprop(owns (c : Thread nD τ) sc0 fullShare (tbl m 0 c t) ∗ owns (c : Thread nD τ) sc1 fullShare (tbl m 1 c t)
      ∗ (∃ d, owns (c : Thread nD τ) sc2 fullShare d) ∗ (∃ d, owns (c : Thread nD τ) sc3 fullShare d)) ∗ (∃ r, prngReg c r)) := by
  obtain ⟨n, hn⟩ := t
  cases n with
  | zero => exact absurd rfl hz
  | succ n => rw [tbl_eq m 0 c ⟨n + 1, hn⟩ ⟨n, Nat.lt_of_succ_lt hn⟩, tbl_eq m 1 c ⟨n + 1, hn⟩ ⟨n, Nat.lt_of_succ_lt hn⟩]; rfl

/-- The proof data: each input's buffer at its block, the output's at `outAt`, the scratch at `PhiS`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t := by dsimp only [dats]

/-- The invariant at a point's start. -/
theorem PhiS_castSucc (c : Dev nD) (t : Fin cfg0.N) : (dats m 0 c).Φ t.castSucc = PhiS m c t.val (Nat.le_of_lt t.isLt) := by
  dsimp only [dats]; exact Pipeline.Dat.Φ_castSucc (PhiS m c) t

/-! Each input's staging buffer holds its block at every point. -/

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 3200000 in
/-- The body at any point: the run of the point's case, between the invariant's scratch. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5]
  rw [after_6, show (dats m 0 c).Φ t.succ = PhiS m c (t.val + 1) t.isLt from rfl, PhiS_succ, PhiS_castSucc m c t]
  by_cases hc : cond0 (grid0.coords t)
  · rw [PhiS_zero m c _ _ ((hcond0 t).mp hc), PhiA_eq]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply (kernelRunFirst c (grid0.coords t) _ _ _ _ _ _ _ _ _ _ _ _ _ _ _ _ _ _ _ _ _ _ hc (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS_pos m c t fun h => hc ((hcond0 t).mpr h)]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply (kernelRunLater c (grid0.coords t) _ _ _ _ _ _ _ _ _ _ _ _ _ _ _ _ _ _ _ _ _ _ hc (iblk m c 0 t) (iblk m c 1 t) (iblk m c 2 t) (iblk m c 3 t) (iblk m c 4 t) (iblk m c 5 t) (tbl m 0 c t) (tbl m 1 c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body's obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the tables are forgotten. -/
theorem hout (c : Dev nD) : (dats m 0 c).Φ (Fin.last cfg0.N) ⊢ Pipeline.ΦA spec0 c := by
  have hN : cfg0.N = 7 + 1 := N_0
  have key : ∀ (n k : ℕ) (h : n ≤ cfg0.N) (hk : n = k + 1), PhiS m c n h ⊢ Pipeline.ΦA spec0 c := by
    intro n k h hk
    subst hk
    rw [PhiS_succ, PhiA_eq]
    iintro ⟨⟨HS0, HS1, HS2, HS3⟩, Hg⟩
    isplitl [HS0 HS1 HS2 HS3]
    · isplitl [HS0]; · iexists _; iexact HS0
      isplitl [HS1]; · iexists _; iexact HS1
      isplitl [HS2]; · iexact HS2
      iexact HS3
    iexact Hg
  exact key (Fin.last cfg0.N).val 7 _ hN

set_option backward.isDefEq.respectTransparency.types false in
/-- The launch: every array ends at what the proof data leave in it, and every semaphore counter at zero. -/
theorem run_main : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hh => ⟨fun c => ⟨((hh.1 c).1 0).trans (((dats m 0 c).arrAt_in 0 rfl _).trans <| (A_eq m c 0).trans (V_main_arg0 m c)),
      ((hh.1 c).1 1).trans (((dats m 0 c).arrAt_in 1 rfl _).trans <| (A_eq m c 1).trans (V_main_arg1 m c)),
      ((hh.1 c).2 main_arg2 (Pipeline.mem_restRefs_of main_arg2 (by decide) (by decide))).trans (V_main_arg2 m c),
      ((hh.1 c).2 main_arg3 (Pipeline.mem_restRefs_of main_arg3 (by decide) (by decide))).trans (V_main_arg3 m c),
      ((hh.1 c).2 main_arg4 (Pipeline.mem_restRefs_of main_arg4 (by decide) (by decide))).trans (V_main_arg4 m c),
      ((hh.1 c).2 main_arg5 (Pipeline.mem_restRefs_of main_arg5 (by decide) (by decide))).trans (V_main_arg5 m c)⟩, hh.2⟩) (run_main m ρ)

end Cert.KernelIdeal.Hand

end
-- ==== Proof.RI.Tail.lean ====
/-
# The reference's host lines

What the lines after the reference's call leave in the result, as one function of the buffers they read, and that function
at an index: every weight is looked up by its code word in its block's codebook.
-/
module

public import proofs.«01_k».proof.Proof.Gen.ReferenceIdeal.Frame
public import Idealize.ShloMosaic.Lib.StableHlo.RunRead
public import Idealize.ShloMosaic.Lib.Pointwise

@[expose] public section

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.ReferenceIdeal Cert.ReferenceIdeal.Gen

/-- The indices the gather starts at: the block and the code word. -/
def starts (IX : Vec Ideal S7168x4096 .i8) : IVec S56x128x4096x2 32 :=
  concatenate S56x128x4096x2 3
    [⟨S56x128x4096x1, broadcastInDim S56x128x4096x1 ![0, 1, 2] bcast_S56x128x4096_S56x128x4096x1_0_1_2
        (broadcastInDim S56x128x4096 ![0, 1, 2] bcast_S56x1x1_S56x128x4096_0_1_2 (broadcastInDim S56x1x1 ![0] bcast_S56_S56x1x1_0 (iotaInDim S56 32 0)))⟩,
     ⟨S56x128x4096x1, broadcastInDim S56x128x4096x1 ![0, 1, 2] bcast_S56x128x4096_S56x128x4096x1_0_1_2
        (shapeCast S56x128x4096 (extui 32 IX natLt_8_32) shapeCasts_S7168x4096_S56x128x4096)⟩]
    concatenates_S56x128x4096x1_S56x128x4096x1_S56x128x4096x2_d3

/-- The scaled codebook. -/
def book (CB : FVec Ideal S56x256x2 .bf16) (SC : FVec Ideal S56 .bf16) : FVec Ideal S56x256x2 .bf16 :=
  mulf CB (broadcastInDim S56x256x2 ![0, 1, 2] bcast_S56x1x1_S56x256x2_0_1_2 (broadcastInDim S56x1x1 ![0] bcast_S56_S56x1x1_0 SC))

/-- The decoded weights, from the pairs looked up. -/
def weights (G : FVec Ideal S56x128x4096x2 .bf16) : FVec Ideal S14336x4096 .bf16 :=
  shapeCast S14336x4096 (transpose S56x128x2x4096 [0, 1, 3, 2] G transposes_S56x128x4096x2_S56x128x2x4096_0_1_3_2) shapeCasts_S56x128x2x4096_S14336x4096

/-- The pairs looked up. -/
def looked (B : FVec Ideal S56x256x2 .bf16) (I : IVec S56x128x4096x2 32) : FVec Ideal S56x128x4096x2 .bf16 :=
  Host.gather gather_S56x256x2_S56x128x4096x2_S56x128x4096x2_3_01_n_n_01_3_112 B I

/-- The product, scaled by row and by column. -/
def product (CD : FVec Ideal S1920x14336 .bf16) (W : FVec Ideal S14336x4096 .bf16) (XS : FVec Ideal S1920 .f32) (OS : FVec Ideal S4096 .f32) : FVec Ideal S1920x4096 .bf16 :=
  truncf .bf16 (mulf (mulf (Host.dotGeneral dot_S1920x14336_S14336x4096_S1920x4096_1_0_0_1_n_n none CD W)
      (broadcastInDim S1920x4096 ![0, 1] bcast_S1920x1_S1920x4096_0_1 (broadcastInDim S1920x1 ![0] bcast_S1920_S1920x1_0 XS)))
    (broadcastInDim S1920x4096 ![0, 1] bcast_S1x4096_S1920x4096_0_1 (broadcastInDim S1x4096 ![1] bcast_S4096_S1x4096_1 OS))) bitsLt_bf16_f32

set_option maxHeartbeats 2000000 in
/-- The lines leave the composed function of what they read. -/
theorem tail_eq (W : Valuation τ sig (Elt Ideal)) :
    StableHlo.after hostOps1 W (Proc.devRef .tc main_v22)
      = product (W (Proc.devRef .tc main_v0_0)) (weights (looked (book (W (Proc.devRef .tc main_v0_1)) (W (Proc.devRef .tc main_arg3)))
          (starts (W (Proc.devRef .tc main_arg1))))) (W (Proc.devRef .tc main_arg4)) (W (Proc.devRef .tc main_arg5)) := by
  unfold hostOps1 product weights looked book starts
  after_results
  rfl

set_option maxHeartbeats 1000000 in
theorem product_apply (CD W XS OS) (i : Fin 1920) (j : Fin 4096) :
    product CD W XS OS (ix2 i j) = ((∑ g : Fin 14336, (CD (ix2 i g) : EReal) * W (ix2 g j)) * XS (ix1 i) * OS (ix1 j) : EReal) := by
  unfold product
  pointwise [dot_S1920x14336_S14336x4096_S1920x4096_1_0_0_1_n_n]

set_option maxHeartbeats 1000000 in
theorem weights_apply (G) (g : Fin 14336) (j : Fin 4096) :
    weights G (ix2 g j) = G (ix4 ⟨g.val / 256, by omega⟩ ⟨g.val / 2 % 128, Nat.mod_lt _ (by decide)⟩ j ⟨g.val % 2, Nat.mod_lt _ (by decide)⟩) := by
  unfold weights
  pointwise

set_option maxHeartbeats 1000000 in
theorem book_apply (CB SC) (b : Fin 56) (w : Fin 256) (v : Fin 2) :
    book CB SC (ix3 b w v) = ((CB (ix3 b w v) : EReal) * SC (ix1 b) : EReal) := by
  unfold book
  pointwise

set_option maxHeartbeats 1000000 in
theorem starts_block (IX) (b : Fin 56) (q : Fin 128) (j : Fin 4096) :
    starts IX (ix4 b q j 0) = BitVec.ofNat 32 b.val := by
  unfold starts
  pointwise

set_option maxHeartbeats 1000000 in
theorem starts_word (IX) (b : Fin 56) (q : Fin 128) (j : Fin 4096) :
    starts IX (ix4 b q j 1) = BitVec.setWidth 32 (IX (ix2 ⟨b.val * 128 + q.val, by omega⟩ j) : BitVec 8) := by
  unfold starts
  pointwise

/-- The reference's gather. -/
abbrev gd : GatherDims S56x256x2 S56x128x4096x2 S56x128x4096x2 := gather_S56x256x2_S56x128x4096x2_S56x128x4096x2_3_01_n_n_01_3_112

/-- A pair, looked up: the block and the code word are the start's two components. -/
theorem looked_apply (B) (I : IVec S56x128x4096x2 32) (b : Fin 56) (q : Fin 128) (j : Fin 4096) (v : Fin 2) (b' : Fin 56) (w : Fin 256)
    (h0 : (I (ix4 b q j 0)).toInt = b'.val) (h1 : (I (ix4 b q j 1)).toInt = w.val) :
    looked B I (ix4 b q j v) = B (ix3 b' w v) := by
  have hs0 : ∀ h, gd.siIdx (ix4 b q j v) ⟨0, h⟩ = ix4 b q j 0 := by
    intro h; funext a; refine Fin.ext ?_
    match a with
    | ⟨0, _⟩ => rfl
    | ⟨1, _⟩ => rfl
    | ⟨2, _⟩ => rfl
    | ⟨3, _⟩ => rfl
  have hs1 : ∀ h, gd.siIdx (ix4 b q j v) ⟨1, h⟩ = ix4 b q j 1 := by
    intro h; funext a; refine Fin.ext ?_
    match a with
    | ⟨0, _⟩ => rfl
    | ⟨1, _⟩ => rfl
    | ⟨2, _⟩ => rfl
    | ⟨3, _⟩ => rfl
  have k0 : gd.start (ix4 b q j v) I 0 = b'.val := by
    unfold GatherDims.start
    rw [dif_pos (show (0 : Fin 3) ∈ gd.startIndexMap from .head _)]
    exact (congrArg (fun z => min (I z).toInt.toNat 55) (hs0 _)).trans (by rw [h0, Int.toNat_natCast]; omega)
  have k1 : gd.start (ix4 b q j v) I 1 = w.val := by
    unfold GatherDims.start
    rw [dif_pos (show (1 : Fin 3) ∈ gd.startIndexMap from .tail _ (.head _))]
    exact (congrArg (fun z => min (I z).toInt.toNat 255) (hs1 _)).trans (by rw [h1, Int.toNat_natCast]; omega)
  have k2 : gd.start (ix4 b q j v) I 2 = 0 := by
    unfold GatherDims.start
    rw [dif_neg (show ¬(2 : Fin 3) ∈ gd.startIndexMap by decide)]
  unfold looked Host.gather
  congr 1
  funext a
  refine Fin.ext ?_
  show gd.start _ _ a + gd.batchCoord _ a + gd.offCoord _ a = _
  rw [GatherDims.batchCoord_eq_zero gd _ a (List.not_mem_nil), Nat.add_zero]
  match a with
  | ⟨0, h⟩ => exact (congrArg₂ (· + ·) k0 (GatherDims.offCoord_eq_zero gd _ 0 fun h => ((GatherDims.mem_sKept gd 0).mp h).1 (.head _))).trans (Nat.add_zero _)
  | ⟨1, h⟩ => exact (congrArg₂ (· + ·) k1 (GatherDims.offCoord_eq_zero gd _ 1 fun h => ((GatherDims.mem_sKept gd 1).mp h).1 (.tail _ (.head _)))).trans (Nat.add_zero _)
  | ⟨2, h⟩ => exact (congrArg₂ (· + ·) k2 rfl).trans (Nat.zero_add _)

/-- The result at an index, from what the lines read: the sum over all weight rows of code times scaled codebook entry, scaled. -/
theorem tail_apply (CD : FVec Ideal S1920x14336 .bf16) (CB : FVec Ideal S56x256x2 .bf16) (SC : FVec Ideal S56 .bf16) (IX : Vec Ideal S7168x4096 .i8)
    (XS : FVec Ideal S1920 .f32) (OS : FVec Ideal S4096 .f32) (i : Fin 1920) (j : Fin 4096) :
    product CD (weights (looked (book CB SC) (starts IX))) XS OS (ix2 i j)
      = ((∑ g : Fin 14336, (CD (ix2 i g) : EReal)
          * ((CB (ix3 ⟨g.val / 256, by omega⟩ ⟨(IX (ix2 ⟨g.val / 2, by omega⟩ j) : BitVec 8).toNat, BitVec.isLt _⟩ ⟨g.val % 2, by omega⟩) : EReal)
            * (SC (ix1 ⟨g.val / 256, by omega⟩) : EReal))) * (XS (ix1 i) : EReal) * (OS (ix1 j) : EReal) : EReal) := by
  rw [product_apply]
  congr 2
  refine Finset.sum_congr rfl fun g _ => ?_
  congr 1
  have hb : g.val / 256 * 128 + g.val / 2 % 128 = g.val / 2 := by omega
  have h0 : (starts IX (ix4 ⟨g.val / 256, by omega⟩ ⟨g.val / 2 % 128, Nat.mod_lt _ (by decide)⟩ j 0)).toInt = ((⟨g.val / 256, by omega⟩ : Fin 56).val : ℤ) := by
    rw [starts_block]
    have : g.val / 256 < 56 := by omega
    have hn : (BitVec.ofNat 32 (g.val / 256)).toNat = g.val / 256 := by rw [BitVec.toNat_ofNat]; omega
    show (BitVec.ofNat 32 (g.val / 256)).toInt = ((g.val / 256 : ℕ) : ℤ)
    rw [BitVec.toInt_eq_toNat_of_lt (by omega), hn]
  have h1 : (starts IX (ix4 ⟨g.val / 256, by omega⟩ ⟨g.val / 2 % 128, Nat.mod_lt _ (by decide)⟩ j 1)).toInt
      = ((⟨(IX (ix2 ⟨g.val / 2, by omega⟩ j) : BitVec 8).toNat, BitVec.isLt _⟩ : Fin 256).val : ℤ) := by
    rw [starts_word]
    simp only [hb]
    generalize (IX (ix2 ⟨g.val / 2, by omega⟩ j) : BitVec 8) = x
    have hx := x.isLt
    have hn : (BitVec.setWidth 32 x).toNat = x.toNat := by rw [BitVec.toNat_setWidth]; omega
    rw [BitVec.toInt_eq_toNat_of_lt (by omega), hn]
  rw [weights_apply, looked_apply _ _ _ _ _ _ _ _ h0 h1, book_apply]

end Cert.ReferenceIdeal.Hand

end
-- ==== Proof.RI.Value.lean ====
/-
# The reference's result

The reference's call leaves the codes and the codebook as numbers in its two results (its one block is each whole array);
the host lines after it then leave, at every index, the sum over all weight rows of code times scaled codebook entry, scaled
by row and by column.
-/
module

public import proofs.«01_k».proof.Proof.RI.Tail
public import Idealize.ShloMosaic.Lib.Pipeline.Value
public import Idealize.ShloMosaic.Lib.Claim

@[expose] public section

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.ReferenceIdeal Cert.ReferenceIdeal.Gen

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The codes as numbers. -/
def codes (c : Dev nD) : Buf (Elt Ideal) ((c : Thread nD τ).loc main_v0_0) :=
  sitofp (F := Ideal) (s := S1920x14336) .bf16 (m ((c : Thread nD τ).loc main_arg0))
/-- The codebook as numbers. -/
def cbook (c : Dev nD) : Buf (Elt Ideal) ((c : Thread nD τ).loc main_v0_1) :=
  sitofp (F := Ideal) (s := S56x256x2) .bf16 (m ((c : Thread nD τ).loc main_arg2))

theorem flushed_2 (c : Dev nD) (t : Fin cfg0.N) :
    (dats m 0 c).flushed 2 t = (win0_2.blk t).view.read (Elt Ideal) (codes m c) := by
  show (cfg0.win 2).cut (grid0.coords t) ((dats m 0 c).after 2 t) = _
  rw [after0_2]
  unfold out0_2
  rw [View.canon_unit_zero hz2, View.ld_unit_zero hz2]
  rfl

theorem flushed_3 (c : Dev nD) (t : Fin cfg0.N) :
    (dats m 0 c).flushed 3 t = (win0_3.blk t).view.read (Elt Ideal) (cbook m c) := by
  show (cfg0.win 3).cut (grid0.coords t) ((dats m 0 c).after 3 t) = _
  rw [after0_3]
  unfold out0_3
  rw [View.canon_unit_zero hz3, View.ld_unit_zero hz3]
  rfl

theorem pos0 : 0 < cfg0.N := by have : cfg0.N = 1 := N_0; omega

theorem final_2 (c : Dev nD) : (dats m 0 c).arrAt 2 cfg0.N = codes m c :=
  (dats m 0 c).arrAt_eq_of_cover 2 (codes m c) (fun t _ => flushed_2 m c t) fun i => ⟨⟨0, pos0⟩, flush0_2 _, by
    show i ∈ ((View.whole main_v0_0).slice (win0_2.rect ⟨0, pos0⟩)).set
    rw [View.set_slice_whole, Rect.mem_set_unit]
    intro a
    have hs : ∀ a : Fin S1920x14336.rank, win0_2.kind.off (win0_2.index ⟨0, pos0⟩ a) (win0_2.size a) = 0
        ∧ win0_2.xsize (grid0.coords ⟨0, pos0⟩) a = S1920x14336.size a := by decide +kernel
    obtain ⟨h0, h1⟩ := hs a
    refine ⟨Nat.le_trans (Nat.le_of_eq h0) (Nat.zero_le _), Nat.lt_of_lt_of_eq (i a).isLt ?_⟩
    exact ((congrArg₂ (· + ·) h0 h1).trans (Nat.zero_add _)).symm⟩

theorem final_3 (c : Dev nD) : (dats m 0 c).arrAt 3 cfg0.N = cbook m c :=
  (dats m 0 c).arrAt_eq_of_cover 3 (cbook m c) (fun t _ => flushed_3 m c t) fun i => ⟨⟨0, pos0⟩, flush0_3 _, by
    show i ∈ ((View.whole main_v0_1).slice (win0_3.rect ⟨0, pos0⟩)).set
    rw [View.set_slice_whole, Rect.mem_set_unit]
    intro a
    have hs : ∀ a : Fin S56x256x2.rank, win0_3.kind.off (win0_3.index ⟨0, pos0⟩ a) (win0_3.size a) = 0
        ∧ win0_3.xsize (grid0.coords ⟨0, pos0⟩) a = S56x256x2.size a := by decide +kernel
    obtain ⟨h0, h1⟩ := hs a
    refine ⟨Nat.le_trans (Nat.le_of_eq h0) (Nat.zero_le _), Nat.lt_of_lt_of_eq (i a).isLt ?_⟩
    exact ((congrArg₂ (· + ·) h0 h1).trans (Nat.zero_add _)).symm⟩

/-- The function the reference computes: at `(i, j)` the sum over the weight rows `g` of the code `(i, g)` times the decoded
    weight `(g, j)` — component `g % 2` of the codebook entry of block `g / 256` which the index `(g / 2, j)` names, times
    the block's scale — times the row's scale, times the column's. -/
def spec (CD : Vec Ideal S1920x14336 .i8) (IX : Vec Ideal S7168x4096 .i8) (CB : Vec Ideal S56x256x2 .i8) (SC : Vec Ideal S56 .bf16)
    (XS : Vec Ideal S1920 .f32) (OS : Vec Ideal S4096 .f32) (i : Fin 1920) (j : Fin 4096) : EReal :=
  (∑ g : Fin 14336, (((CD (ix2 i g) : BitVec 8).toInt : ℝ) : EReal)
      * ((((CB (ix3 ⟨g.val / 256, by omega⟩ ⟨(IX (ix2 ⟨g.val / 2, by omega⟩ j) : BitVec 8).toNat, BitVec.isLt _⟩ ⟨g.val % 2, by omega⟩) : BitVec 8).toInt : ℝ) : EReal)
        * (SC (ix1 ⟨g.val / 256, by omega⟩) : EReal))) * (XS (ix1 i) : EReal) * (OS (ix1 j) : EReal)

/-- Device `c`'s result in those terms. -/
def result (c : Dev nD) (i : Fin 1920) (j : Fin 4096) : EReal :=
  spec (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) i j

/-- What the lines after the call find: the two results of the call, and the arguments. -/
abbrev mid (c : Dev nD) : Valuation τ sig (Elt Ideal) :=
  Pipeline.withArrays spec0 c (V0 m c) fun w => (dats m 0 c).arrAt w cfg0.N

theorem mid_v0_0 (c : Dev nD) : mid m c (Proc.devRef .tc main_v0_0) = codes m c :=
  (Pipeline.withArrays_arr spec0 (by decide) c (V0 m c) _ 2).trans (final_2 m c)
theorem mid_v0_1 (c : Dev nD) : mid m c (Proc.devRef .tc main_v0_1) = cbook m c :=
  (Pipeline.withArrays_arr spec0 (by decide) c (V0 m c) _ 3).trans (final_3 m c)
theorem mid_arg1 (c : Dev nD) : mid m c (Proc.devRef .tc main_arg1) = m ((c : Thread nD τ).loc main_arg1) :=
  Pipeline.withArrays_of_ne _ c (V0 m c) _ main_arg1 (by exact (by decide : ∀ w, Pipeline.arrRef spec0 w ≠ main_arg1))
theorem mid_arg3 (c : Dev nD) : mid m c (Proc.devRef .tc main_arg3) = m ((c : Thread nD τ).loc main_arg3) :=
  Pipeline.withArrays_of_ne _ c (V0 m c) _ main_arg3 (by exact (by decide : ∀ w, Pipeline.arrRef spec0 w ≠ main_arg3))
theorem mid_arg4 (c : Dev nD) : mid m c (Proc.devRef .tc main_arg4) = m ((c : Thread nD τ).loc main_arg4) :=
  Pipeline.withArrays_of_ne _ c (V0 m c) _ main_arg4 (by exact (by decide : ∀ w, Pipeline.arrRef spec0 w ≠ main_arg4))
theorem mid_arg5 (c : Dev nD) : mid m c (Proc.devRef .tc main_arg5) = m ((c : Thread nD τ).loc main_arg5) :=
  Pipeline.withArrays_of_ne _ c (V0 m c) _ main_arg5 (by exact (by decide : ∀ w, Pipeline.arrRef spec0 w ≠ main_arg5))

/-- The result buffer at the end, at an index. -/
theorem final (c : Dev nD) (i : Fin 1920) (j : Fin 4096) :
    (Pipeline.afterTail₀ cfgs (dats m) 0 (V0 m) [hostOps1] c main_v22 : Vec Ideal S1920x4096 .bf16) (ix2 i j) = result m c i j := by
  have e : (Pipeline.afterTail₀ cfgs (dats m) 0 (V0 m) [hostOps1] c main_v22 : Vec Ideal S1920x4096 .bf16)
      = product (codes m c) (weights (looked (book (cbook m c) (m ((c : Thread nD τ).loc main_arg3))) (starts (m ((c : Thread nD τ).loc main_arg1)))))
          (m ((c : Thread nD τ).loc main_arg4)) (m ((c : Thread nD τ).loc main_arg5)) := by
    unfold Pipeline.afterTail₀
    refine (tail_eq (mid m c)).trans ?_
    rw [mid_v0_0, mid_v0_1, mid_arg1, mid_arg3, mid_arg4, mid_arg5]
  exact (congrFun e (ix2 i j)).trans (tail_apply _ _ _ _ _ _ i j)

/-- The run: the result at the function, the arguments unchanged. -/
theorem run : θ_run defs (onTc (τ := τ) (main (F := Ideal))) ⟨m, fun _ => 0, ρ⟩ (fun r => ∀ c : Dev nD,
      (∀ (i : Fin 1920) (j : Fin 4096), (r.2.mem ((c.tc : Thread nD τ).loc main_v22) : Vec Ideal S1920x4096 .bf16) (ix2 i j) = result m c i j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨fun i j => (congrFun ((h.1 c).2 main_v22 (Pipeline.mem_restRefs_of main_v22 (by decide) (by decide))) (ix2 i j)).trans (final m c i j),
    h.2 c⟩) (θ_run_and (run_main m ρ) (unchanged m ρ))

end Cert.ReferenceIdeal.Hand

end
-- ==== Proof.PI.Value.lean ====
/-
# The idealized kernel's result

The contents of the arrays the call reads, at an index, in terms of the arguments; each point's output block in those terms:
the block of the function `spec` the reference computes; the blocks tile the result, so the result is that function.
-/
module

public import proofs.«01_k».proof.Proof.PI.Frame
public import proofs.«01_k».proof.Proof.RI.Value
public import Idealize.ShloMosaic.Lib.StableHlo.RunRead
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-! ## The arrays the call reads -/

theorem V_v2 (c : Dev nD) (v : Fin 2) (b : Fin 56) (w : Fin 256) :
    (V m c main_v2 : Vec Ideal S2x56x256 .i8) (ix3 v b w) = (m ((c : Thread nD τ).loc main_arg2) : Vec Ideal S56x256x2 .i8) (ix3 b w v) := by
  have e : (V m c main_v2 : Vec Ideal S2x56x256 .i8) = transpose S2x56x256 [2, 0, 1] (m ((c : Thread nD τ).loc main_arg2)) transposes_S56x256x2_S2x56x256_2_0_1 := by
    unfold V hostOps0; after_results
  rw [e]; generalize (m ((c : Thread nD τ).loc main_arg2) : Vec Ideal S56x256x2 .i8) = x
  pointwise

theorem V_v3 (c : Dev nD) (b : Fin 56) :
    (V m c main_v3 : Vec Ideal S56x1 .bf16) (ix2 b 0) = (m ((c : Thread nD τ).loc main_arg3) : Vec Ideal S56 .bf16) (ix1 b) := by
  have e : (V m c main_v3 : Vec Ideal S56x1 .bf16) = shapeCast S56x1 (m ((c : Thread nD τ).loc main_arg3) : Vec Ideal S56 .bf16) shapeCasts_S56_S56x1 := by
    unfold V hostOps0; after_results; rfl
  rw [e]; generalize (m ((c : Thread nD τ).loc main_arg3) : Vec Ideal S56 .bf16) = x
  pointwise

theorem V_v4 (c : Dev nD) (j : Fin 4096) :
    (V m c main_v4 : Vec Ideal S1x4096 .f32) (ix2 0 j) = (m ((c : Thread nD τ).loc main_arg5) : Vec Ideal S4096 .f32) (ix1 j) := by
  have e : (V m c main_v4 : Vec Ideal S1x4096 .f32) = shapeCast S1x4096 (m ((c : Thread nD τ).loc main_arg5) : Vec Ideal S4096 .f32) shapeCasts_S4096_S1x4096 := by
    unfold V hostOps0; after_results; rfl
  rw [e]
  refine shapeCast_apply _ _ (ix2 0 j) (ix1 j) ?_
  rw [Shape.rowMajor_val_one, Shape.rowMajor_val_two]
  show j.val = 0 * 4096 + j.val
  omega

theorem V_v1 (c : Dev nD) (i : Fin 1920) (l : Fin 128) :
    (V m c main_v1 : Vec Ideal S1920x128 .f32) (ix2 i l) = (m ((c : Thread nD τ).loc main_arg4) : Vec Ideal S1920 .f32) (ix1 i) := by
  have e : (V m c main_v1 : Vec Ideal S1920x128 .f32) = broadcastInDim S1920x128 ![0, 1] bcast_S1920x1_S1920x128_0_1
      (broadcastInDim S1920x1 ![0] bcast_S1920_S1920x1_0 (m ((c : Thread nD τ).loc main_arg4) : Vec Ideal S1920 .f32)) := by
    unfold V hostOps0; after_results
  rw [e]; generalize (m ((c : Thread nD τ).loc main_arg4) : Vec Ideal S1920 .f32) = x
  pointwise

/-! ## The blocks -/

theorem index_0 (t : Fin cfg0.N) : win0_0.index t 0 = 0 ∧ win0_0.index t 1 = 0 := ⟨rfl, rfl⟩
theorem index_1 : ∀ t : Fin grid0.N, win0_1.index t 0 = 0 ∧ win0_1.index t 1 = t.val := by decide +kernel
theorem index_5 : ∀ t : Fin grid0.N, win0_5.index t 0 = 0 ∧ win0_5.index t 1 = t.val := by decide +kernel
theorem index_6 : ∀ t : Fin grid0.N, win0_6.index t 0 = 0 ∧ win0_6.index t 1 = t.val := by decide +kernel

theorem lt8 (t : Fin cfg0.N) : t.val < 8 := Nat.lt_of_lt_of_eq t.isLt N_0

/-- The result's column `b` of block `t`. -/
def column (t : Fin cfg0.N) (b : Fin 512) : Fin 4096 := ⟨512 * t.val + b.val, by have := lt8 t; omega⟩

theorem iblk0_apply (c : Dev nD) (t : Fin cfg0.N) (i : Fin 1920) (g : Fin 14336) :
    (iblk m c 0 t : Vec Ideal S1920x14336 .i8) (ix2 i g) = (m ((c : Thread nD τ).loc main_arg0) : Vec Ideal S1920x14336 .i8) (ix2 i g) := by
  refine Eq.trans ?_ (congrFun (V_main_arg0 m c) (ix2 i g))
  unfold iblk
  rw [View.read_apply]
  show V m c main_arg0 _ = V m c main_arg0 _
  congr 1
  funext a
  apply Fin.ext
  match a with
  | ⟨0, _⟩ => show win0_0.index t 0 * 1920 + 1 * i.val = i.val; rw [(index_0 t).1]; omega
  | ⟨1, _⟩ => show win0_0.index t 1 * 14336 + 1 * g.val = g.val; rw [(index_0 t).2]; omega

theorem iblk1_apply (c : Dev nD) (t : Fin cfg0.N) (r : Fin 7168) (b : Fin 512) :
    (iblk m c 1 t : Vec Ideal S7168x512 .i8) (ix2 r b) = (m ((c : Thread nD τ).loc main_arg1) : Vec Ideal S7168x4096 .i8) (ix2 r (column t b)) := by
  refine Eq.trans ?_ (congrFun (V_main_arg1 m c) (ix2 r (column t b)))
  unfold iblk
  rw [View.read_apply]
  show V m c main_arg1 _ = V m c main_arg1 _
  congr 1
  funext a
  apply Fin.ext
  match a with
  | ⟨0, _⟩ => show win0_1.index t 0 * 7168 + 1 * r.val = r.val; rw [(index_1 t).1]; omega
  | ⟨1, _⟩ => show win0_1.index t 1 * 512 + 1 * b.val = 512 * t.val + b.val; rw [(index_1 t).2]; omega

theorem iblk2_apply (c : Dev nD) (t : Fin cfg0.N) (v : Fin 2) (b : Fin 56) (w : Fin 256) :
    (iblk m c 2 t : Vec Ideal S2x56x256 .i8) (ix3 v b w) = (m ((c : Thread nD τ).loc main_arg2) : Vec Ideal S56x256x2 .i8) (ix3 b w v) := by
  refine Eq.trans ?_ (V_v2 m c v b w)
  unfold iblk
  rw [View.read_apply]
  show V m c main_v2 _ = V m c main_v2 _
  congr 1
  funext a
  apply Fin.ext
  match a with
  | ⟨0, _⟩ => show 0 * 2 + 1 * v.val = v.val; omega
  | ⟨1, _⟩ => show 0 * 56 + 1 * b.val = b.val; omega
  | ⟨2, _⟩ => show 0 * 256 + 1 * w.val = w.val; omega

theorem iblk3_apply (c : Dev nD) (t : Fin cfg0.N) (b : Fin 56) :
    (iblk m c 3 t : Vec Ideal S56x1 .bf16) (ix2 b 0) = (m ((c : Thread nD τ).loc main_arg3) : Vec Ideal S56 .bf16) (ix1 b) := by
  refine Eq.trans ?_ (V_v3 m c b)
  unfold iblk
  rw [View.read_apply]
  show V m c main_v3 _ = V m c main_v3 _
  congr 1
  funext a
  apply Fin.ext
  match a with
  | ⟨0, _⟩ => show 0 * 56 + 1 * b.val = b.val; omega
  | ⟨1, _⟩ => rfl

theorem iblk4_apply (c : Dev nD) (t : Fin cfg0.N) (i : Fin 1920) (l : Fin 128) :
    (iblk m c 4 t : Vec Ideal S1920x128 .f32) (ix2 i l) = (m ((c : Thread nD τ).loc main_arg4) : Vec Ideal S1920 .f32) (ix1 i) := by
  refine Eq.trans ?_ (V_v1 m c i l)
  unfold iblk
  rw [View.read_apply]
  show V m c main_v1 _ = V m c main_v1 _
  congr 1
  funext a
  apply Fin.ext
  match a with
  | ⟨0, _⟩ => show 0 * 1920 + 1 * i.val = i.val; omega
  | ⟨1, _⟩ => show 0 * 128 + 1 * l.val = l.val; omega

theorem iblk5_apply (c : Dev nD) (t : Fin cfg0.N) (b : Fin 512) :
    (iblk m c 5 t : Vec Ideal S1x512 .f32) (ix2 0 b) = (m ((c : Thread nD τ).loc main_arg5) : Vec Ideal S4096 .f32) (ix1 (column t b)) := by
  refine Eq.trans ?_ (V_v4 m c (column t b))
  unfold iblk
  rw [View.read_apply]
  show V m c main_v4 _ = V m c main_v4 _
  congr 1
  funext a
  apply Fin.ext
  match a with
  | ⟨0, _⟩ => show win0_5.index t 0 * 1 + 1 * 0 = 0; rw [(index_5 t).1]
  | ⟨1, _⟩ => show win0_5.index t 1 * 512 + 1 * b.val = 512 * t.val + b.val; rw [(index_5 t).2]; omega

/-! ## The decoded weight and the output block, in terms of the arguments -/

/-- The entry of the two tables at a code word — below 128 the first table's at the word, from 128 on the second's at the word
    less 128 — is the codebook's entry at that word, scaled. -/
theorem tables_at (CB : Vec Ideal S2x56x256 .i8) (SC : Vec Ideal S56x1 .bf16) (b : Fin 56) (v : Fin 2) (w : BitVec 8) :
    (if 128 ≤ w.toNat then table 1 CB SC else table 0 CB SC) (ix3 b v ⟨w.toNat % 128, Nat.mod_lt _ (by decide)⟩)
      = ((((CB (ix3 v b ⟨w.toNat, w.isLt⟩) : BitVec 8).toInt : ℝ) : EReal) * (SC (ix2 b 0) : EReal) : EReal) := by
  have hlt : w.toNat < 256 := w.isLt
  have key : ∀ (h : Fin 2) (hh : 128 * h.val + w.toNat % 128 = w.toNat), table h CB SC (ix3 b v ⟨w.toNat % 128, Nat.mod_lt _ (by decide)⟩)
      = ((((CB (ix3 v b ⟨w.toNat, w.isLt⟩) : BitVec 8).toInt : ℝ) : EReal) * (SC (ix2 b 0) : EReal) : EReal) := fun h hh =>
    congrArg (fun k : Fin 256 => ((((CB (ix3 v b k) : BitVec 8).toInt : ℝ) : EReal) * (SC (ix2 b 0) : EReal) : EReal)) (Fin.ext hh)
  by_cases h : 128 ≤ w.toNat
  · rw [if_pos h]; exact key 1 (by show 128 * 1 + _ = _; omega)
  · rw [if_neg h]; exact key 0 (by show 128 * 0 + _ = _; omega)

/-- The weight the two tables decode at a code word is the codebook's entry at that word, scaled. -/
theorem wAt_table (CB : Vec Ideal S2x56x256 .i8) (SC : Vec Ideal S56x1 .bf16) (IX : Vec Ideal S7168x512 .i8) (g : Fin 14336) (b : Fin 512)
    (w : BitVec 8) (hw : (IX (ix2 ⟨g.val / 2, by omega⟩ b) : BitVec 8) = w) :
    wAt (table 0 CB SC) (table 1 CB SC) IX g b
      = ((((CB (ix3 ⟨g.val % 2, by omega⟩ ⟨g.val / 256, by omega⟩ ⟨w.toNat, w.isLt⟩) : BitVec 8).toInt : ℝ) : EReal)
        * (SC (ix2 ⟨g.val / 256, by omega⟩ 0) : EReal) : EReal) := by
  subst hw
  exact tables_at CB SC ⟨g.val / 256, by omega⟩ ⟨g.val % 2, by omega⟩ _

/-- Device `c`'s result, as the function of its arguments the reference computes. -/
def result (c : Dev nD) (i : Fin 1920) (j : Fin 4096) : EReal :=
  Cert.ReferenceIdeal.Hand.spec (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) i j

theorem outAt_apply (c : Dev nD) (t : Fin cfg0.N) (i : Fin 1920) (b : Fin 512) : outAt m c t (ix2 i b) = result m c i (column t b) := by
  unfold outAt outBlk result Cert.ReferenceIdeal.Hand.spec
  refine congrArg₂ (· * ·) (congrArg₂ (· * ·) ?_ (iblk4_apply m c t i _)) (iblk5_apply m c t b)
  rw [Finset.sum_range]
  refine Finset.sum_congr rfl fun g _ => ?_
  unfold term
  rw [dif_pos g.isLt]
  refine congrArg₂ (· * ·) (congrArg (fun z : BitVec 8 => (((z.toInt : ℝ)) : EReal)) (iblk0_apply m c t i g)) ?_
  unfold tbl
  refine (wAt_table _ _ _ g b _ (iblk1_apply m c t ⟨g.val / 2, by omega⟩ b)).trans ?_
  exact congrArg₂ (· * ·) (congrArg (fun z : BitVec 8 => (((z.toInt : ℝ)) : EReal)) (iblk2_apply m c t _ _ _)) (iblk3_apply m c t _)

/-! ## The result array -/

/-- The result as contents of its array. -/
def resultArr (c : Dev nD) : Buf (Elt Ideal) ((c : Thread nD τ).loc main_v5) := fun y : S1920x4096.Idx => (result m c (y 0) (y 1) : EReal)

theorem flushed_6 (c : Dev nD) (t : Fin cfg0.N) : (dats m 0 c).flushed 6 t = (win0_6.blk t).view.read (Elt Ideal) (resultArr m c) := by
  show (cfg0.win 6).cut (grid0.coords t) ((dats m 0 c).after 6 t) = _
  rw [after_6]
  funext y
  rw [View.read_apply]
  show outAt m c t y = result m c _ _
  have ey : (y : S1920x512.Idx) = ix2 (y 0) (y 1) := eq_ix2 y
  refine (congrArg (outAt m c t) ey).trans ((outAt_apply m c t (y 0) (y 1)).trans ?_)
  refine congrArg₂ (result m c) (Fin.ext ?_) (Fin.ext ?_)
  · show (y 0).val = win0_6.index t 0 * 1920 + 1 * (y 0).val; rw [(index_6 t).1]; omega
  · show 512 * t.val + (y 1).val = win0_6.index t 1 * 512 + 1 * (y 1).val; rw [(index_6 t).2]; omega

theorem sizes_6 : ∀ t : Fin grid0.N, win0_6.xsize (grid0.coords t) 0 = 1920 ∧ win0_6.xsize (grid0.coords t) 1 = 512 := by decide +kernel

theorem final_6 (c : Dev nD) : (dats m 0 c).arrAt 6 cfg0.N = resultArr m c :=
  (dats m 0 c).arrAt_eq_of_cover 6 (resultArr m c) (fun t _ => flushed_6 m c t) fun i => by
    have h0 : (i 0 : Nat) < 1920 := (i 0).isLt
    have h1 : (i 1 : Nat) < 4096 := (i 1).isLt
    have hN : cfg0.N = 8 := N_0
    let t : Fin cfg0.N := ⟨(i 1 : Nat) / 512, by omega⟩
    refine ⟨t, flush0_6 t, ?_⟩
    show i ∈ ((View.whole main_v5).slice (win0_6.rect t)).set
    rw [View.set_slice_whole, Rect.mem_set_unit]
    intro a
    match a with
    | ⟨0, _⟩ => show win0_6.index t 0 * 1920 ≤ (i 0 : Nat) ∧ (i 0 : Nat) < win0_6.index t 0 * 1920 + win0_6.xsize (grid0.coords t) 0
                rw [(index_6 t).1, (sizes_6 t).1]; omega
    | ⟨1, _⟩ => show win0_6.index t 1 * 512 ≤ (i 1 : Nat) ∧ (i 1 : Nat) < win0_6.index t 1 * 512 + win0_6.xsize (grid0.coords t) 1
                rw [(index_6 t).2, (sizes_6 t).2]; show (i 1 : Nat) / 512 * 512 ≤ _ ∧ _ < (i 1 : Nat) / 512 * 512 + 512; omega

/-- The run: the result at the function, the arguments unchanged. -/
theorem run : θ_run defs (onTc (τ := τ) (main (F := Ideal))) ⟨m, fun _ => 0, ρ⟩ (fun r => ∀ c : Dev nD,
      r.2.mem ((c.tc : Thread nD τ).loc main_v5) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1.1 c).1 6).trans (final_6 m c), h.2.1 c⟩) (θ_run_and (run_main m ρ) (frame m ρ))

end Cert.KernelIdeal.Hand

end
-- ==== Proof.Claims.lean ====
/-
# The claims between the programs

The idealized kernel keeps what the kernel says (each rewriting of packed words is one of the rule's statements), and over the
reals it and the reference leave equal results: both are the function `spec` of the arguments.
-/
module

public import proofs.«01_k».proof.Defs
public import proofs.«01_k».proof.Proof.P.Frame
public import proofs.«01_k».proof.Proof.PI.Value
public import proofs.«01_k».proof.Proof.RI.Value
public import Idealize.ShloMosaic.Lib.Bf16PairInverse

@[expose] public section

noncomputable section

namespace Cert.Proof

open Idealize.ShloMosaic Idealize.ShloMosaic.TcCoe Idealize.SL.Sem

/-- The re-typed scratch, the packings, and the words read as rows: each by the rule's own statement. -/
theorem preserves : Cert.preserves_Kernel_KernelIdeal :=
  open Cert.KernelIdeal IdealRules.bf16_pair in
  ⟨bufferStatement S56x2x128 S56x1x128, packStatement S56x128, statement S56x2x128 S56x1x128, statement S1x2x128 S1x1x128,
    statement S2x128 S1x128, packStatement S128x128, statement S256x128 S128x128⟩

/-- From arguments that agree, the idealized kernel's result and the reference's are the same function of them. -/
theorem algebraic : Cert.algebraic_KernelIdeal_ReferenceIdeal := by
  intro m ρ m' ρ' _ hagree
  refine ⟨fun c => Cert.KernelIdeal.Hand.resultArr m c, Cert.KernelIdeal.Hand.run m ρ, ?_⟩
  refine (θ_run Cert.ReferenceIdeal.defs _ _).mono (fun r h c => ⟨?_, (h c).2⟩) (Cert.ReferenceIdeal.Hand.run m' ρ')
  have e : ∀ (i : Fin 1920) (j : Fin 4096), Cert.ReferenceIdeal.Hand.result m' c i j = Cert.KernelIdeal.Hand.result m c i j := fun i j => by
    unfold Cert.ReferenceIdeal.Hand.result Cert.KernelIdeal.Hand.result
    rw [(hagree c).1, (hagree c).2.1, (hagree c).2.2.1, (hagree c).2.2.2.1, (hagree c).2.2.2.2.1, (hagree c).2.2.2.2.2]
  funext y
  have ey : (y : Cert.ReferenceIdeal.S1920x4096.Idx) = ix2 (y 0) (y 1) := eq_ix2 y
  exact (congrArg (r.2.mem ((c.tc : Thread Cert.ReferenceIdeal.nD Cert.ReferenceIdeal.τ).loc Cert.ReferenceIdeal.main_v22)) ey).trans
    (((h c).1 (y 0) (y 1)).trans (e (y 0) (y 1)))

end Cert.Proof

end
-- ==== Proof.QRI.Spec.lean ====
/-
# What quantising computes

One scale per row, from the largest magnitude among its entries; one code per entry, the entry over its row's scale, rounded to the
nearest integer and clipped to [-127, 127].
-/
module

public import Idealize.ShloMosaic.Lib.Pointwise
public import Idealize.ShloMosaic.PureOps

@[expose] public section

noncomputable section

namespace Cert.QuantiseReferenceIdeal.Hand

open Idealize.ShloMosaic

/-- A magnitude. -/
def mag (x : EReal) : EReal := max x (-x)

/-- The largest magnitude among a row's entries. -/
def amax (row : Fin 14336 → EReal) : EReal := Finset.univ.sup fun k => mag (row k)

/-- A row's scale: its largest magnitude over 127 where that is positive, 1 where the row is all zeros. -/
def scaleOf (a : EReal) : EReal := if 0 < a then Ideal.div a (Ideal.ofBits .f32 0x42FE0000#32) else 1

/-- An entry's code under a scale. -/
def codeOf (x s : EReal) : BitVec 8 :=
  FloatOps.fptosi (F := Ideal) (φ := .f32) 8
    (FloatOps.minimumf (F := Ideal) (φ := .f32) (FloatOps.ofBits .f32 0x42FE0000#32)
      (FloatOps.maximumf (F := Ideal) (φ := .f32) (FloatOps.ofBits .f32 0xC2FE0000#32)
        (FloatOps.roundeven (F := Ideal) (φ := .f32) (FloatOps.divf (F := Ideal) (φ := .f32) x s))))

/-- Row `i` of the tokens, at column `k`: the 3 sequences of 640 tokens one after another. -/
def entry (X : Vec Ideal ⟨3, ![3, 640, 14336]⟩ .bf16) (i : Fin 1920) (k : Fin 14336) : EReal :=
  X (ix3 ⟨i.val / 640, by omega⟩ ⟨i.val % 640, Nat.mod_lt _ (by decide)⟩ k)

/-- Row `i`'s scale. -/
def scale (X : Vec Ideal ⟨3, ![3, 640, 14336]⟩ .bf16) (i : Fin 1920) : EReal := scaleOf (amax (entry X i))

/-- Row `i`'s code at column `k`. -/
def code (X : Vec Ideal ⟨3, ![3, 640, 14336]⟩ .bf16) (i : Fin 1920) (k : Fin 14336) : BitVec 8 := codeOf (entry X i k) (scale X i)

end Cert.QuantiseReferenceIdeal.Hand

end
-- ==== Proof.QI.Rows.lean ====
/-
# Rows of a block, chunk by chunk

A block's entries by their row and column as numbers; the largest magnitude the first chunks of a row hold at a lane; a load of one
chunk as those entries; and the scale a group of rows gets from its per-lane maxima.
-/
module

public import proofs.«01_k».proof.Proof.Gen.QuantiseIdeal.Frame
public import proofs.«01_k».proof.Proof.QRI.Spec
public import Idealize.ShloMosaic.Lib.StableHlo.RunRead
public import Idealize.ShloMosaic.Lib.Pointwise

@[expose] public section

set_option maxRecDepth 16384

noncomputable section

namespace Cert.QuantiseIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.QuantiseIdeal Cert.QuantiseIdeal.Gen

open Cert.QuantiseReferenceIdeal.Hand (mag amax scaleOf codeOf)

/-- Entry (a, b) of a block, 0 outside it. -/
def ent (x0 : Vec Ideal S128x14336 .bf16) (a b : ℕ) : EReal :=
  if h : a < 128 ∧ b < 14336 then (x0 (ix2 ⟨a, h.1⟩ ⟨b, h.2⟩) : EReal) else 0

/-- The largest magnitude in row `a` at lane `l` of the first `n` chunks of 128 columns. -/
def lane (x0 : Vec Ideal S128x14336 .bf16) (a l : ℕ) : ℕ → EReal
  | 0 => ⊥
  | n + 1 => max (lane x0 a l n) (mag (ent x0 a (128 * n + l)))

theorem load_apply (arg1 : Memref sig .tc .vmem S128x14336 .bf16) (harg1 : arg1.IsWhole) (x0 : Vec Ideal S128x14336 .bf16) (a b : ℕ)
    (h : ∀ d, (![a, b] : Fin 2 → ℕ) d + (![32, 128] : Fin 2 → ℕ) d ≤ S128x14336.size d) (p : Fin 32) (l : Fin 128) :
    (View.readAt (Elt Ideal) arg1.view (Rect.unit (s := S128x14336) ![a, b] ![32, 128] h).toLoadRect (harg1.unread x0) : Vec Ideal S32x128 .bf16) (ix2 p l)
      = ent x0 (a + p.val) (b + l.val) := by
  have h0 : a + 32 ≤ 128 := h 0
  have h1 : b + 128 ≤ 14336 := h 1
  rw [View.readAt_eq_ld, harg1.read_unread, ent, dif_pos ⟨by omega, by omega⟩]
  refine congrArg x0 ?_
  funext d
  apply Fin.ext
  match d with
  | ⟨0, _⟩ => show a + 1 * p.val = a + p.val; omega
  | ⟨1, _⟩ => show b + 1 * l.val = b + l.val; omega

theorem abs_eq (x : EReal) : FloatOps.absf (F := Ideal) (φ := .bf16) x = mag x := rfl

/-- The scale each row gets from its per-lane maxima, broadcast along the lanes. -/
def scaleVec (v : FVec Ideal S32x128 .bf16) : FVec Ideal S32x128 .f32 :=
  have w : FVec Ideal S32x1 .f32 := shapeCast S32x1 (multiReduction .maximumf [1] S32 (extf .f32 v bitsLt_bf16_f32 : FVec Ideal S32x128 .f32) 0xFF800000#32 reduces_S32x128_S32 (.inl rfl) rfl) shapeCasts_S32_S32x1
  broadcastTo S32x128 (shapeCast S32x1 (select (cmpf .ogt w (broadcast S32x1 (Scalar.ofBits (F := Ideal) .f32 0x00000000#32)))
    (divf w (broadcast S32x1 (Scalar.ofBits (F := Ideal) .f32 0x42FE0000#32))) (broadcast S32x1 (Scalar.ofBits (F := Ideal) .f32 0x3F800000#32)))
    shapeCasts_S32x1_S32x1) broadcasts_S32x1_S32x128

theorem neg_inf : (FloatOps.ofBits (F := Ideal) .f32 0xFF800000#32 : EReal) = ⊥ := by
  simp [Ideal.ofBits, Ideal.ieee]

theorem reduce_apply (v : FVec Ideal S32x128 .f32) (p : Fin 32) :
    (multiReduction .maximumf [1] S32 v 0xFF800000#32 reduces_S32x128_S32 (.inl rfl) rfl : FVec Ideal S32 .f32) (ix1 p)
      = Finset.univ.sup fun l : Fin 128 => (v (ix2 p l) : EReal) := by
  refine (Ideal.multiReduction_maximumf_single v _ _ _ _ _).trans ?_
  have e : ∀ l : Fin 128, reduces_S32x128_S32.lift (ix1 p) l = (ix2 p l : S32x128.Idx) := fun l => by
    funext d; match d with
    | ⟨0, _⟩ => rfl
    | ⟨1, _⟩ => rfl
  refine (congrArg₂ (fun (b : EReal) (g : Fin 128 → EReal) => (Finset.univ : Finset (Fin 128)).fold max b g) neg_inf
    (funext fun l => congrArg v (e l))).trans ?_
  rfl

theorem scaleVec_apply (v : FVec Ideal S32x128 .bf16) (p : Fin 32) (l : Fin 128) :
    scaleVec v (ix2 p l) = scaleOf (Finset.univ.sup fun l : Fin 128 => (v (ix2 p l) : EReal)) := by
  have e : (shapeCast S32x1 (multiReduction .maximumf [1] S32 (extf .f32 v bitsLt_bf16_f32 : FVec Ideal S32x128 .f32) 0xFF800000#32 reduces_S32x128_S32 (.inl rfl) rfl) shapeCasts_S32_S32x1 : FVec Ideal S32x1 .f32) (ix2 p 0)
      = Finset.univ.sup fun l : Fin 128 => (v (ix2 p l) : EReal) := by
    refine (shapeCast_apply _ _ (ix2 p 0) (ix1 p) ?_).trans (reduce_apply _ p)
    rw [Shape.rowMajor_val_one, Shape.rowMajor_val_two]
    show p.val = p.val * 1 + 0
    omega
  rw [← e]
  unfold scaleVec
  rw [shapeCast_self]
  generalize (shapeCast S32x1 (multiReduction .maximumf [1] S32 (extf .f32 v bitsLt_bf16_f32 : FVec Ideal S32x128 .f32) 0xFF800000#32 reduces_S32x128_S32 (.inl rfl) rfl) shapeCasts_S32_S32x1 : FVec Ideal S32x1 .f32) = w
  unfold scaleOf
  pointwise

end Cert.QuantiseIdeal.Hand

end
-- ==== Proof.QI.Chain.lean ====
/-
# Each group's scale

The kernel folds a group's 32 rows over the 112 chunks of 128 columns, ten chunks or so at a time. After each stretch the value
held is the largest magnitude of the chunks so far, lane by lane; after the last one, the scale of each of the group's rows.
-/
module

public import proofs.«01_k».proof.Proof.QI.Rows
public import proofs.«01_k».proof.Proof.QRI.Spec
public import Idealize.ShloMosaic.Lib.StableHlo.RunRead
public import Idealize.ShloMosaic.Lib.Pointwise

@[expose] public section

set_option maxRecDepth 16384

noncomputable section

namespace Cert.QuantiseIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.QuantiseIdeal Cert.QuantiseIdeal.Gen

open Cert.QuantiseReferenceIdeal.Hand (mag amax scaleOf codeOf)

theorem lane_eq (x0 : Vec Ideal S128x14336 .bf16) (a l n : ℕ) : lane x0 a l n = (Finset.range n).sup fun k => mag (ent x0 a (128 * k + l)) := by
  induction n with
  | zero => rfl
  | succ n ih => rw [lane, ih, Finset.range_add_one, Finset.sup_insert, max_comm]

/-- Over the lanes, the 112 chunks hold the whole row. -/
theorem sup_lane (x0 : Vec Ideal S128x14336 .bf16) (a : ℕ) :
    (Finset.univ.sup fun l : Fin 128 => lane x0 a l.val 112) = amax fun k => ent x0 a k.val := by
  unfold amax
  apply le_antisymm
  · refine Finset.sup_le fun l _ => ?_
    rw [lane_eq]
    refine Finset.sup_le fun k hk => ?_
    have hk' : k < 112 := Finset.mem_range.1 hk
    exact Finset.le_sup (f := fun k : Fin 14336 => mag (ent x0 a k.val)) (Finset.mem_univ (⟨128 * k + l.val, by omega⟩ : Fin 14336))
  · refine Finset.sup_le fun b _ => ?_
    refine le_trans ?_ (Finset.le_sup (f := fun l : Fin 128 => lane x0 a l.val 112) (Finset.mem_univ (⟨b.val % 128, Nat.mod_lt _ (by decide)⟩ : Fin 128)))
    show _ ≤ lane x0 a (b.val % 128) 112
    rw [lane_eq]
    have e : 128 * (b.val / 128) + b.val % 128 = b.val := Nat.div_add_mod _ _
    refine le_trans (le_of_eq ?_) (Finset.le_sup (f := fun k => mag (ent x0 a (128 * k + b.val % 128))) (Finset.mem_range.2 (show b.val / 128 < 112 by omega)))
    show _ = mag (ent x0 a (128 * (b.val / 128) + b.val % 128))
    rw [e]

/-- Row `a`'s scale. -/
def scaleAt (x0 : Vec Ideal S128x14336 .bf16) (a : ℕ) : EReal := scaleOf (amax fun k => ent x0 a k.val)

variable (c : Dev nD) (arg1 : Memref sig .tc .vmem S128x14336 .bf16) (harg1 : arg1.IsWhole) (x0 : Vec Ideal S128x14336 .bf16) (p : Fin 32) (l : Fin 128)

theorem r_apply : kernelRun0_A.sl.r c arg1 harg1 x0 (ix2 p l) = lane x0 (0 + p.val) l.val 10 := by
  unfold kernelRun0_A.sl.r k0_pay4
  simp only [maximumf_apply, absf_apply, shapeCast_self, load_apply, Ideal.maximumf_eq_max, abs_eq, lane, bot_le, max_eq_right, Nat.reduceMul]

theorem r_1_apply : kernelRun0_A.sl.r_1 c arg1 harg1 x0 (ix2 p l) = lane x0 (0 + p.val) l.val 20 := by
  unfold kernelRun0_A.sl.r_1 k0_pay5
  simp only [maximumf_apply, absf_apply, shapeCast_self, load_apply, r_apply, Ideal.maximumf_eq_max, abs_eq, lane, Nat.reduceMul]

theorem r_2_apply : kernelRun0_A.sl.r_2 c arg1 harg1 x0 (ix2 p l) = lane x0 (0 + p.val) l.val 30 := by
  unfold kernelRun0_A.sl.r_2 k0_pay6
  simp only [maximumf_apply, absf_apply, shapeCast_self, load_apply, r_1_apply, Ideal.maximumf_eq_max, abs_eq, lane, Nat.reduceMul]

theorem r_3_apply : kernelRun0_A.sl.r_3 c arg1 harg1 x0 (ix2 p l) = lane x0 (0 + p.val) l.val 40 := by
  unfold kernelRun0_A.sl.r_3 k0_pay7
  simp only [maximumf_apply, absf_apply, shapeCast_self, load_apply, r_2_apply, Ideal.maximumf_eq_max, abs_eq, lane, Nat.reduceMul]

theorem r_4_apply : kernelRun0_A.sl.r_4 c arg1 harg1 x0 (ix2 p l) = lane x0 (0 + p.val) l.val 50 := by
  unfold kernelRun0_A.sl.r_4 k0_pay8
  simp only [maximumf_apply, absf_apply, shapeCast_self, load_apply, r_3_apply, Ideal.maximumf_eq_max, abs_eq, lane, Nat.reduceMul]

theorem r_5_apply : kernelRun0_A.sl.r_5 c arg1 harg1 x0 (ix2 p l) = lane x0 (0 + p.val) l.val 60 := by
  unfold kernelRun0_A.sl.r_5 k0_pay9
  simp only [maximumf_apply, absf_apply, shapeCast_self, load_apply, r_4_apply, Ideal.maximumf_eq_max, abs_eq, lane, Nat.reduceMul]

theorem r_6_apply : kernelRun0_A.sl.r_6 c arg1 harg1 x0 (ix2 p l) = lane x0 (0 + p.val) l.val 70 := by
  unfold kernelRun0_A.sl.r_6 k0_pay10
  simp only [maximumf_apply, absf_apply, shapeCast_self, load_apply, r_5_apply, Ideal.maximumf_eq_max, abs_eq, lane, Nat.reduceMul]

theorem r_7_apply : kernelRun0_A.sl.r_7 c arg1 harg1 x0 (ix2 p l) = lane x0 (0 + p.val) l.val 80 := by
  unfold kernelRun0_A.sl.r_7 k0_pay11
  simp only [maximumf_apply, absf_apply, shapeCast_self, load_apply, r_6_apply, Ideal.maximumf_eq_max, abs_eq, lane, Nat.reduceMul]

theorem r_8_apply : kernelRun0_A.sl.r_8 c arg1 harg1 x0 (ix2 p l) = lane x0 (0 + p.val) l.val 90 := by
  unfold kernelRun0_A.sl.r_8 k0_pay12
  simp only [maximumf_apply, absf_apply, shapeCast_self, load_apply, r_7_apply, Ideal.maximumf_eq_max, abs_eq, lane, Nat.reduceMul]

theorem r_9_apply : kernelRun0_A.sl.r_9 c arg1 harg1 x0 (ix2 p l) = lane x0 (0 + p.val) l.val 100 := by
  unfold kernelRun0_A.sl.r_9 k0_pay13
  simp only [maximumf_apply, absf_apply, shapeCast_self, load_apply, r_8_apply, Ideal.maximumf_eq_max, abs_eq, lane, Nat.reduceMul]

theorem r_10_apply : kernelRun0_A.sl.r_10 c arg1 harg1 x0 (ix2 p l) = lane x0 (0 + p.val) l.val 110 := by
  unfold kernelRun0_A.sl.r_10 k0_pay14
  simp only [maximumf_apply, absf_apply, shapeCast_self, load_apply, r_9_apply, Ideal.maximumf_eq_max, abs_eq, lane, Nat.reduceMul]

theorem r_11_apply : kernelRun0_A.sl.r_11 c arg1 harg1 x0 (ix2 p l) = scaleAt x0 (0 + p.val) := by
  unfold kernelRun0_A.sl.r_11 k0_pay15
  refine (scaleVec_apply _ p l).trans ?_
  rw [scaleAt, ← sup_lane]
  refine congrArg scaleOf (Finset.sup_congr rfl fun l _ => ?_)
  simp only [maximumf_apply, absf_apply, shapeCast_self, load_apply, r_10_apply, Ideal.maximumf_eq_max, abs_eq, lane, Nat.reduceMul]

theorem r_46_apply : kernelRun0_A.sl.r_46 c arg1 harg1 x0 (ix2 p l) = lane x0 (32 + p.val) l.val 9 := by
  unfold kernelRun0_A.sl.r_46 k0_pay151
  simp only [maximumf_apply, absf_apply, shapeCast_self, load_apply, Ideal.maximumf_eq_max, abs_eq, lane, bot_le, max_eq_right, Nat.reduceMul]

theorem r_47_apply : kernelRun0_A.sl.r_47 c arg1 harg1 x0 (ix2 p l) = lane x0 (32 + p.val) l.val 19 := by
  unfold kernelRun0_A.sl.r_47 k0_pay152
  simp only [maximumf_apply, absf_apply, shapeCast_self, load_apply, r_46_apply, Ideal.maximumf_eq_max, abs_eq, lane, Nat.reduceMul]

theorem r_48_apply : kernelRun0_A.sl.r_48 c arg1 harg1 x0 (ix2 p l) = lane x0 (32 + p.val) l.val 29 := by
  unfold kernelRun0_A.sl.r_48 k0_pay153
  simp only [maximumf_apply, absf_apply, shapeCast_self, load_apply, r_47_apply, Ideal.maximumf_eq_max, abs_eq, lane, Nat.reduceMul]

theorem r_49_apply : kernelRun0_A.sl.r_49 c arg1 harg1 x0 (ix2 p l) = lane x0 (32 + p.val) l.val 39 := by
  unfold kernelRun0_A.sl.r_49 k0_pay154
  simp only [maximumf_apply, absf_apply, shapeCast_self, load_apply, r_48_apply, Ideal.maximumf_eq_max, abs_eq, lane, Nat.reduceMul]

theorem r_50_apply : kernelRun0_A.sl.r_50 c arg1 harg1 x0 (ix2 p l) = lane x0 (32 + p.val) l.val 49 := by
  unfold kernelRun0_A.sl.r_50 k0_pay155
  simp only [maximumf_apply, absf_apply, shapeCast_self, load_apply, r_49_apply, Ideal.maximumf_eq_max, abs_eq, lane, Nat.reduceMul]

theorem r_51_apply : kernelRun0_A.sl.r_51 c arg1 harg1 x0 (ix2 p l) = lane x0 (32 + p.val) l.val 59 := by
  unfold kernelRun0_A.sl.r_51 k0_pay156
  simp only [maximumf_apply, absf_apply, shapeCast_self, load_apply, r_50_apply, Ideal.maximumf_eq_max, abs_eq, lane, Nat.reduceMul]

theorem r_52_apply : kernelRun0_A.sl.r_52 c arg1 harg1 x0 (ix2 p l) = lane x0 (32 + p.val) l.val 69 := by
  unfold kernelRun0_A.sl.r_52 k0_pay157
  simp only [maximumf_apply, absf_apply, shapeCast_self, load_apply, r_51_apply, Ideal.maximumf_eq_max, abs_eq, lane, Nat.reduceMul]

theorem r_53_apply : kernelRun0_A.sl.r_53 c arg1 harg1 x0 (ix2 p l) = lane x0 (32 + p.val) l.val 79 := by
  unfold kernelRun0_A.sl.r_53 k0_pay158
  simp only [maximumf_apply, absf_apply, shapeCast_self, load_apply, r_52_apply, Ideal.maximumf_eq_max, abs_eq, lane, Nat.reduceMul]

theorem r_54_apply : kernelRun0_A.sl.r_54 c arg1 harg1 x0 (ix2 p l) = lane x0 (32 + p.val) l.val 89 := by
  unfold kernelRun0_A.sl.r_54 k0_pay159
  simp only [maximumf_apply, absf_apply, shapeCast_self, load_apply, r_53_apply, Ideal.maximumf_eq_max, abs_eq, lane, Nat.reduceMul]

theorem r_55_apply : kernelRun0_A.sl.r_55 c arg1 harg1 x0 (ix2 p l) = lane x0 (32 + p.val) l.val 99 := by
  unfold kernelRun0_A.sl.r_55 k0_pay160
  simp only [maximumf_apply, absf_apply, shapeCast_self, load_apply, r_54_apply, Ideal.maximumf_eq_max, abs_eq, lane, Nat.reduceMul]

theorem r_56_apply : kernelRun0_A.sl.r_56 c arg1 harg1 x0 (ix2 p l) = lane x0 (32 + p.val) l.val 109 := by
  unfold kernelRun0_A.sl.r_56 k0_pay161
  simp only [maximumf_apply, absf_apply, shapeCast_self, load_apply, r_55_apply, Ideal.maximumf_eq_max, abs_eq, lane, Nat.reduceMul]

theorem r_57_apply : kernelRun0_A.sl.r_57 c arg1 harg1 x0 (ix2 p l) = scaleAt x0 (32 + p.val) := by
  unfold kernelRun0_A.sl.r_57 k0_pay162
  refine (scaleVec_apply _ p l).trans ?_
  rw [scaleAt, ← sup_lane]
  refine congrArg scaleOf (Finset.sup_congr rfl fun l _ => ?_)
  simp only [maximumf_apply, absf_apply, shapeCast_self, load_apply, r_56_apply, Ideal.maximumf_eq_max, abs_eq, lane, Nat.reduceMul]

theorem r_92_apply : kernelRun0_A.sl.r_92 c arg1 harg1 x0 (ix2 p l) = lane x0 (64 + p.val) l.val 8 := by
  unfold kernelRun0_A.sl.r_92 k0_pay298
  simp only [maximumf_apply, absf_apply, shapeCast_self, load_apply, Ideal.maximumf_eq_max, abs_eq, lane, bot_le, max_eq_right, Nat.reduceMul]

theorem r_93_apply : kernelRun0_A.sl.r_93 c arg1 harg1 x0 (ix2 p l) = lane x0 (64 + p.val) l.val 18 := by
  unfold kernelRun0_A.sl.r_93 k0_pay299
  simp only [maximumf_apply, absf_apply, shapeCast_self, load_apply, r_92_apply, Ideal.maximumf_eq_max, abs_eq, lane, Nat.reduceMul]

theorem r_94_apply : kernelRun0_A.sl.r_94 c arg1 harg1 x0 (ix2 p l) = lane x0 (64 + p.val) l.val 28 := by
  unfold kernelRun0_A.sl.r_94 k0_pay300
  simp only [maximumf_apply, absf_apply, shapeCast_self, load_apply, r_93_apply, Ideal.maximumf_eq_max, abs_eq, lane, Nat.reduceMul]

theorem r_95_apply : kernelRun0_A.sl.r_95 c arg1 harg1 x0 (ix2 p l) = lane x0 (64 + p.val) l.val 38 := by
  unfold kernelRun0_A.sl.r_95 k0_pay301
  simp only [maximumf_apply, absf_apply, shapeCast_self, load_apply, r_94_apply, Ideal.maximumf_eq_max, abs_eq, lane, Nat.reduceMul]

theorem r_96_apply : kernelRun0_A.sl.r_96 c arg1 harg1 x0 (ix2 p l) = lane x0 (64 + p.val) l.val 48 := by
  unfold kernelRun0_A.sl.r_96 k0_pay302
  simp only [maximumf_apply, absf_apply, shapeCast_self, load_apply, r_95_apply, Ideal.maximumf_eq_max, abs_eq, lane, Nat.reduceMul]

theorem r_97_apply : kernelRun0_A.sl.r_97 c arg1 harg1 x0 (ix2 p l) = lane x0 (64 + p.val) l.val 58 := by
  unfold kernelRun0_A.sl.r_97 k0_pay303
  simp only [maximumf_apply, absf_apply, shapeCast_self, load_apply, r_96_apply, Ideal.maximumf_eq_max, abs_eq, lane, Nat.reduceMul]

theorem r_98_apply : kernelRun0_A.sl.r_98 c arg1 harg1 x0 (ix2 p l) = lane x0 (64 + p.val) l.val 68 := by
  unfold kernelRun0_A.sl.r_98 k0_pay304
  simp only [maximumf_apply, absf_apply, shapeCast_self, load_apply, r_97_apply, Ideal.maximumf_eq_max, abs_eq, lane, Nat.reduceMul]

theorem r_99_apply : kernelRun0_A.sl.r_99 c arg1 harg1 x0 (ix2 p l) = lane x0 (64 + p.val) l.val 78 := by
  unfold kernelRun0_A.sl.r_99 k0_pay305
  simp only [maximumf_apply, absf_apply, shapeCast_self, load_apply, r_98_apply, Ideal.maximumf_eq_max, abs_eq, lane, Nat.reduceMul]

theorem r_100_apply : kernelRun0_A.sl.r_100 c arg1 harg1 x0 (ix2 p l) = lane x0 (64 + p.val) l.val 88 := by
  unfold kernelRun0_A.sl.r_100 k0_pay306
  simp only [maximumf_apply, absf_apply, shapeCast_self, load_apply, r_99_apply, Ideal.maximumf_eq_max, abs_eq, lane, Nat.reduceMul]

theorem r_101_apply : kernelRun0_A.sl.r_101 c arg1 harg1 x0 (ix2 p l) = lane x0 (64 + p.val) l.val 98 := by
  unfold kernelRun0_A.sl.r_101 k0_pay307
  simp only [maximumf_apply, absf_apply, shapeCast_self, load_apply, r_100_apply, Ideal.maximumf_eq_max, abs_eq, lane, Nat.reduceMul]

theorem r_102_apply : kernelRun0_A.sl.r_102 c arg1 harg1 x0 (ix2 p l) = lane x0 (64 + p.val) l.val 108 := by
  unfold kernelRun0_A.sl.r_102 k0_pay308
  simp only [maximumf_apply, absf_apply, shapeCast_self, load_apply, r_101_apply, Ideal.maximumf_eq_max, abs_eq, lane, Nat.reduceMul]

theorem r_103_apply : kernelRun0_A.sl.r_103 c arg1 harg1 x0 (ix2 p l) = scaleAt x0 (64 + p.val) := by
  unfold kernelRun0_A.sl.r_103 k0_pay309
  refine (scaleVec_apply _ p l).trans ?_
  rw [scaleAt, ← sup_lane]
  refine congrArg scaleOf (Finset.sup_congr rfl fun l _ => ?_)
  simp only [maximumf_apply, absf_apply, shapeCast_self, load_apply, r_102_apply, Ideal.maximumf_eq_max, abs_eq, lane, Nat.reduceMul]

theorem r_138_apply : kernelRun0_A.sl.r_138 c arg1 harg1 x0 (ix2 p l) = lane x0 (96 + p.val) l.val 7 := by
  unfold kernelRun0_A.sl.r_138 k0_pay444
  simp only [maximumf_apply, absf_apply, shapeCast_self, load_apply, Ideal.maximumf_eq_max, abs_eq, lane, bot_le, max_eq_right, Nat.reduceMul]

theorem r_139_apply : kernelRun0_A.sl.r_139 c arg1 harg1 x0 (ix2 p l) = lane x0 (96 + p.val) l.val 17 := by
  unfold kernelRun0_A.sl.r_139 k0_pay445
  simp only [maximumf_apply, absf_apply, shapeCast_self, load_apply, r_138_apply, Ideal.maximumf_eq_max, abs_eq, lane, Nat.reduceMul]

theorem r_140_apply : kernelRun0_A.sl.r_140 c arg1 harg1 x0 (ix2 p l) = lane x0 (96 + p.val) l.val 27 := by
  unfold kernelRun0_A.sl.r_140 k0_pay446
  simp only [maximumf_apply, absf_apply, shapeCast_self, load_apply, r_139_apply, Ideal.maximumf_eq_max, abs_eq, lane, Nat.reduceMul]

theorem r_141_apply : kernelRun0_A.sl.r_141 c arg1 harg1 x0 (ix2 p l) = lane x0 (96 + p.val) l.val 37 := by
  unfold kernelRun0_A.sl.r_141 k0_pay447
  simp only [maximumf_apply, absf_apply, shapeCast_self, load_apply, r_140_apply, Ideal.maximumf_eq_max, abs_eq, lane, Nat.reduceMul]

theorem r_142_apply : kernelRun0_A.sl.r_142 c arg1 harg1 x0 (ix2 p l) = lane x0 (96 + p.val) l.val 47 := by
  unfold kernelRun0_A.sl.r_142 k0_pay448
  simp only [maximumf_apply, absf_apply, shapeCast_self, load_apply, r_141_apply, Ideal.maximumf_eq_max, abs_eq, lane, Nat.reduceMul]

theorem r_143_apply : kernelRun0_A.sl.r_143 c arg1 harg1 x0 (ix2 p l) = lane x0 (96 + p.val) l.val 57 := by
  unfold kernelRun0_A.sl.r_143 k0_pay449
  simp only [maximumf_apply, absf_apply, shapeCast_self, load_apply, r_142_apply, Ideal.maximumf_eq_max, abs_eq, lane, Nat.reduceMul]

theorem r_144_apply : kernelRun0_A.sl.r_144 c arg1 harg1 x0 (ix2 p l) = lane x0 (96 + p.val) l.val 67 := by
  unfold kernelRun0_A.sl.r_144 k0_pay450
  simp only [maximumf_apply, absf_apply, shapeCast_self, load_apply, r_143_apply, Ideal.maximumf_eq_max, abs_eq, lane, Nat.reduceMul]

theorem r_145_apply : kernelRun0_A.sl.r_145 c arg1 harg1 x0 (ix2 p l) = lane x0 (96 + p.val) l.val 77 := by
  unfold kernelRun0_A.sl.r_145 k0_pay451
  simp only [maximumf_apply, absf_apply, shapeCast_self, load_apply, r_144_apply, Ideal.maximumf_eq_max, abs_eq, lane, Nat.reduceMul]

theorem r_146_apply : kernelRun0_A.sl.r_146 c arg1 harg1 x0 (ix2 p l) = lane x0 (96 + p.val) l.val 87 := by
  unfold kernelRun0_A.sl.r_146 k0_pay452
  simp only [maximumf_apply, absf_apply, shapeCast_self, load_apply, r_145_apply, Ideal.maximumf_eq_max, abs_eq, lane, Nat.reduceMul]

theorem r_147_apply : kernelRun0_A.sl.r_147 c arg1 harg1 x0 (ix2 p l) = lane x0 (96 + p.val) l.val 97 := by
  unfold kernelRun0_A.sl.r_147 k0_pay453
  simp only [maximumf_apply, absf_apply, shapeCast_self, load_apply, r_146_apply, Ideal.maximumf_eq_max, abs_eq, lane, Nat.reduceMul]

theorem r_148_apply : kernelRun0_A.sl.r_148 c arg1 harg1 x0 (ix2 p l) = lane x0 (96 + p.val) l.val 107 := by
  unfold kernelRun0_A.sl.r_148 k0_pay454
  simp only [maximumf_apply, absf_apply, shapeCast_self, load_apply, r_147_apply, Ideal.maximumf_eq_max, abs_eq, lane, Nat.reduceMul]

theorem r_149_apply : kernelRun0_A.sl.r_149 c arg1 harg1 x0 (ix2 p l) = scaleAt x0 (96 + p.val) := by
  unfold kernelRun0_A.sl.r_149 k0_pay455
  refine (scaleVec_apply _ p l).trans ?_
  rw [scaleAt, ← sup_lane]
  refine congrArg scaleOf (Finset.sup_congr rfl fun l _ => ?_)
  simp only [maximumf_apply, absf_apply, shapeCast_self, load_apply, r_148_apply, Ideal.maximumf_eq_max, abs_eq, lane, Nat.reduceMul]

end Cert.QuantiseIdeal.Hand

end
-- ==== Proof.QI.Codes.lean ====
/-
# The codes of a block

Each of the 448 stores of codes holds, at every index, the code of the block's entry there under its row's scale; together they
are the whole block.
-/
module

public import proofs.«01_k».proof.Proof.QI.Chain
public import proofs.«01_k».proof.Proof.QRI.Spec
public import Idealize.ShloMosaic.Lib.StableHlo.RunRead
public import Idealize.ShloMosaic.Lib.Pointwise

@[expose] public section

set_option maxRecDepth 16384

noncomputable section

namespace Cert.QuantiseIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.QuantiseIdeal Cert.QuantiseIdeal.Gen

open Cert.QuantiseReferenceIdeal.Hand (mag amax scaleOf codeOf)

/-- The block of codes. -/
def codes (x0 : Vec Ideal S128x14336 .bf16) : Vec Ideal S128x14336 .i8 :=
  fun y : S128x14336.Idx => codeOf (ent x0 (y 0).val (y 1).val) (scaleAt x0 (y 0).val)

/-- A stored piece holds the codes its rectangle names. -/
def Ok (x0 : Vec Ideal S128x14336 .bf16) (q : View.Piece (Elt Ideal) S128x14336 .i8) : Prop := ∀ x : q.1.shape.Idx, q.2 x = codes x0 (q.1.emb x)

theorem ok_cons {x0 : Vec Ideal S128x14336 .bf16} {q : View.Piece (Elt Ideal) S128x14336 .i8} {L : List (View.Piece (Elt Ideal) S128x14336 .i8)}
    (h : Ok x0 q) (hL : ∀ q ∈ L, Ok x0 q) : ∀ q' ∈ q :: L, Ok x0 q' := List.forall_mem_cons.2 ⟨h, hL⟩

theorem code_apply (s : FVec Ideal S32x128 .f32) (v : Vec Ideal S32x128 .bf16) (j : S32x128.Idx) : k0_pay2 s v j = codeOf (v j) (s j) := by
  unfold k0_pay2
  rw [shapeCast_self]
  rfl

theorem piece (arg1 : Memref sig .tc .vmem S128x14336 .bf16) (harg1 : arg1.IsWhole) (x0 : Vec Ideal S128x14336 .bf16)
    (s : FVec Ideal S32x128 .f32) {a' : ℕ} (hs : ∀ p l, s (ix2 p l) = scaleAt x0 (a' + p.val)) (a b : ℕ)
    (h : ∀ d, (![a, b] : Fin 2 → ℕ) d + (![32, 128] : Fin 2 → ℕ) d ≤ S128x14336.size d) (w : IVec S32x128 8)
    (hw : w = k0_pay2 s (View.readAt (Elt Ideal) arg1.view (Rect.unit (s := S128x14336) ![a, b] ![32, 128] h).toLoadRect (harg1.unread x0)))
    (ha : a' = a := by rfl) :
    Ok x0 ⟨Rect.unit (s := S128x14336) ![a, b] ![32, 128] h, w⟩ := by
  subst ha
  intro x
  have ex : (x : S32x128.Idx) = ix2 (x 0) (x 1) := eq_ix2 x
  refine (congrFun hw x).trans ((code_apply s _ x).trans ?_)
  refine (congrArg (fun j => codeOf ((View.readAt (Elt Ideal) arg1.view (Rect.unit (s := S128x14336) ![a', b] ![32, 128] h).toLoadRect (harg1.unread x0) : Vec Ideal S32x128 .bf16) j) (s j)) ex).trans ?_
  refine (congrArg₂ codeOf (load_apply arg1 harg1 x0 a' b h (x 0) (x 1)) (hs (x 0) (x 1))).trans ?_
  show _ = codeOf (ent x0 (a' + 1 * (x 0).val) (b + 1 * (x 1).val)) (scaleAt x0 (a' + 1 * (x 0).val))
  rw [Nat.one_mul, Nat.one_mul]

variable (c : Dev nD) (i : grid0.Coords) (arg1 : Memref sig .tc .vmem S128x14336 .bf16) (harg1 : arg1.IsWhole)
  (arg2 : Memref sig .tc .vmem S128x14336 .i8) (harg2 : arg2.IsWhole) (arg3 : Memref sig .tc .vmem S128x128 .f32) (harg3 : arg3.IsWhole)
  (arg4 : Memref sig .tc .vmem S1x1x128 .f32) (harg4 : arg4.IsWhole) (x0 : Vec Ideal S128x14336 .bf16)

theorem all_ok : ∀ q ∈ (kernelRun0_A c i arg1 harg1 arg2 harg2 arg3 harg3 arg4 harg4 x0).1, Ok x0 q := by
  unfold kernelRun0_A
  dsimp only
  refine ok_cons (piece arg1 harg1 x0 _ (r_149_apply c arg1 harg1 x0) 96 14208 inb_S128x14336_S32x128_96_14208 _ rfl) ?_
  refine ok_cons (piece arg1 harg1 x0 _ (r_149_apply c arg1 harg1 x0) 96 14080 inb_S128x14336_S32x128_96_14080 _ rfl) ?_
  refine ok_cons (piece arg1 harg1 x0 _ (r_149_apply c arg1 harg1 x0) 96 13952 inb_S128x14336_S32x128_96_13952 _ rfl) ?_
  refine ok_cons (piece arg1 harg1 x0 _ (r_149_apply c arg1 harg1 x0) 96 13824 inb_S128x14336_S32x128_96_13824 _ rfl) ?_
  refine ok_cons (piece arg1 harg1 x0 _ (r_149_apply c arg1 harg1 x0) 96 13696 inb_S128x14336_S32x128_96_13696 _ rfl) ?_
  refine ok_cons (piece arg1 harg1 x0 _ (r_149_apply c arg1 harg1 x0) 96 13568 inb_S128x14336_S32x128_96_13568 _ rfl) ?_
  refine ok_cons (piece arg1 harg1 x0 _ (r_149_apply c arg1 harg1 x0) 96 13440 inb_S128x14336_S32x128_96_13440 _ rfl) ?_
  refine ok_cons (piece arg1 harg1 x0 _ (r_149_apply c arg1 harg1 x0) 96 13312 inb_S128x14336_S32x128_96_13312 _ rfl) ?_
  refine ok_cons (piece arg1 harg1 x0 _ (r_149_apply c arg1 harg1 x0) 96 13184 inb_S128x14336_S32x128_96_13184 _ rfl) ?_
  refine ok_cons (piece arg1 harg1 x0 _ (r_149_apply c arg1 harg1 x0) 96 13056 inb_S128x14336_S32x128_96_13056 _ rfl) ?_
  refine ok_cons (piece arg1 harg1 x0 _ (r_149_apply c arg1 harg1 x0) 96 12928 inb_S128x14336_S32x128_96_12928 _ rfl) ?_
  refine ok_cons (piece arg1 harg1 x0 _ (r_149_apply c arg1 harg1 x0) 96 12800 inb_S128x14336_S32x128_96_12800 _ rfl) ?_
  refine ok_cons (piece arg1 harg1 x0 _ (r_149_apply c arg1 harg1 x0) 96 12672 inb_S128x14336_S32x128_96_12672 _ rfl) ?_
  refine ok_cons (piece arg1 harg1 x0 _ (r_149_apply c arg1 harg1 x0) 96 12544 inb_S128x14336_S32x128_96_12544 _ rfl) ?_
  refine ok_cons (piece arg1 harg1 x0 _ (r_149_apply c arg1 harg1 x0) 96 12416 inb_S128x14336_S32x128_96_12416 _ rfl) ?_
  refine ok_cons (piece arg1 harg1 x0 _ (r_149_apply c arg1 harg1 x0) 96 12288 inb_S128x14336_S32x128_96_12288 _ rfl) ?_
  refine ok_cons (piece arg1 harg1 x0 _ (r_149_apply c arg1 harg1 x0) 96 12160 inb_S128x14336_S32x128_96_12160 _ rfl) ?_
  refine ok_cons (piece arg1 harg1 x0 _ (r_149_apply c arg1 harg1 x0) 96 12032 inb_S128x14336_S32x128_96_12032 _ rfl) ?_
  refine ok_cons (piece arg1 harg1 x0 _ (r_149_apply c arg1 harg1 x0) 96 11904 inb_S128x14336_S32x128_96_11904 _ rfl) ?_
  refine ok_cons (piece arg1 harg1 x0 _ (r_149_apply c arg1 harg1 x0) 96 11776 inb_S128x14336_S32x128_96_11776 _ rfl) ?_
  refine ok_cons (piece arg1 harg1 x0 _ (r_149_apply c arg1 harg1 x0) 96 11648 inb_S128x14336_S32x128_96_11648 _ rfl) ?_
  refine ok_cons (piece arg1 harg1 x0 _ (r_149_apply c arg1 harg1 x0) 96 11520 inb_S128x14336_S32x128_96_11520 _ rfl) ?_
  refine ok_cons (piece arg1 harg1 x0 _ (r_149_apply c arg1 harg1 x0) 96 11392 inb_S128x14336_S32x128_96_11392 _ rfl) ?_
  refine ok_cons (piece arg1 harg1 x0 _ (r_149_apply c arg1 harg1 x0) 96 11264 inb_S128x14336_S32x128_96_11264 _ rfl) ?_
  refine ok_cons (piece arg1 harg1 x0 _ (r_149_apply c arg1 harg1 x0) 96 11136 inb_S128x14336_S32x128_96_11136 _ rfl) ?_
  refine ok_cons (piece arg1 harg1 x0 _ (r_149_apply c arg1 harg1 x0) 96 11008 inb_S128x14336_S32x128_96_11008 _ rfl) ?_
  refine ok_cons (piece arg1 harg1 x0 _ (r_149_apply c arg1 harg1 x0) 96 10880 inb_S128x14336_S32x128_96_10880 _ rfl) ?_
  refine ok_cons (piece arg1 harg1 x0 _ (r_149_apply c arg1 harg1 x0) 96 10752 inb_S128x14336_S32x128_96_10752 _ rfl) ?_
  refine ok_cons (piece arg1 harg1 x0 _ (r_149_apply c arg1 harg1 x0) 96 10624 inb_S128x14336_S32x128_96_10624 _ rfl) ?_
  refine ok_cons (piece arg1 harg1 x0 _ (r_149_apply c arg1 harg1 x0) 96 10496 inb_S128x14336_S32x128_96_10496 _ rfl) ?_
  refine ok_cons (piece arg1 harg1 x0 _ (r_149_apply c arg1 harg1 x0) 96 10368 inb_S128x14336_S32x128_96_10368 _ rfl) ?_
  refine ok_cons (piece arg1 harg1 x0 _ (r_149_apply c arg1 harg1 x0) 96 10240 inb_S128x14336_S32x128_96_10240 _ rfl) ?_
  refine ok_cons (piece arg1 harg1 x0 _ (r_149_apply c arg1 harg1 x0) 96 10112 inb_S128x14336_S32x128_96_10112 _ rfl) ?_
  refine ok_cons (piece arg1 harg1 x0 _ (r_149_apply c arg1 harg1 x0) 96 9984 inb_S128x14336_S32x128_96_9984 _ rfl) ?_
  refine ok_cons (piece arg1 harg1 x0 _ (r_149_apply c arg1 harg1 x0) 96 9856 inb_S128x14336_S32x128_96_9856 _ rfl) ?_
  refine ok_cons (piece arg1 harg1 x0 _ (r_149_apply c arg1 harg1 x0) 96 9728 inb_S128x14336_S32x128_96_9728 _ rfl) ?_
  refine ok_cons (piece arg1 harg1 x0 _ (r_149_apply c arg1 harg1 x0) 96 9600 inb_S128x14336_S32x128_96_9600 _ rfl) ?_
  refine ok_cons (piece arg1 harg1 x0 _ (r_149_apply c arg1 harg1 x0) 96 9472 inb_S128x14336_S32x128_96_9472 _ rfl) ?_
  refine ok_cons (piece arg1 harg1 x0 _ (r_149_apply c arg1 harg1 x0) 96 9344 inb_S128x14336_S32x128_96_9344 _ rfl) ?_
  refine ok_cons (piece arg1 harg1 x0 _ (r_149_apply c arg1 harg1 x0) 96 9216 inb_S128x14336_S32x128_96_9216 _ rfl) ?_
  refine ok_cons (piece arg1 harg1 x0 _ (r_149_apply c arg1 harg1 x0) 96 9088 inb_S128x14336_S32x128_96_9088 _ rfl) ?_
  refine ok_cons (piece arg1 harg1 x0 _ (r_149_apply c arg1 harg1 x0) 96 8960 inb_S128x14336_S32x128_96_8960 _ rfl) ?_
  refine ok_cons (piece arg1 harg1 x0 _ (r_149_apply c arg1 harg1 x0) 96 8832 inb_S128x14336_S32x128_96_8832 _ rfl) ?_
  refine ok_cons (piece arg1 harg1 x0 _ (r_149_apply c arg1 harg1 x0) 96 8704 inb_S128x14336_S32x128_96_8704 _ rfl) ?_
  refine ok_cons (piece arg1 harg1 x0 _ (r_149_apply c arg1 harg1 x0) 96 8576 inb_S128x14336_S32x128_96_8576 _ rfl) ?_
  refine ok_cons (piece arg1 harg1 x0 _ (r_149_apply c arg1 harg1 x0) 96 8448 inb_S128x14336_S32x128_96_8448 _ rfl) ?_
  refine ok_cons (piece arg1 harg1 x0 _ (r_149_apply c arg1 harg1 x0) 96 8320 inb_S128x14336_S32x128_96_8320 _ rfl) ?_
  refine ok_cons (piece arg1 harg1 x0 _ (r_149_apply c arg1 harg1 x0) 96 8192 inb_S128x14336_S32x128_96_8192 _ rfl) ?_
  refine ok_cons (piece arg1 harg1 x0 _ (r_149_apply c arg1 harg1 x0) 96 8064 inb_S128x14336_S32x128_96_8064 _ rfl) ?_
  refine ok_cons (piece arg1 harg1 x0 _ (r_149_apply c arg1 harg1 x0) 96 7936 inb_S128x14336_S32x128_96_7936 _ rfl) ?_
  refine ok_cons (piece arg1 harg1 x0 _ (r_149_apply c arg1 harg1 x0) 96 7808 inb_S128x14336_S32x128_96_7808 _ rfl) ?_
  refine ok_cons (piece arg1 harg1 x0 _ (r_149_apply c arg1 harg1 x0) 96 7680 inb_S128x14336_S32x128_96_7680 _ rfl) ?_
  refine ok_cons (piece arg1 harg1 x0 _ (r_149_apply c arg1 harg1 x0) 96 7552 inb_S128x14336_S32x128_96_7552 _ rfl) ?_
  refine ok_cons (piece arg1 harg1 x0 _ (r_149_apply c arg1 harg1 x0) 96 7424 inb_S128x14336_S32x128_96_7424 _ rfl) ?_
  refine ok_cons (piece arg1 harg1 x0 _ (r_149_apply c arg1 harg1 x0) 96 7296 inb_S128x14336_S32x128_96_7296 _ rfl) ?_
  refine ok_cons (piece arg1 harg1 x0 _ (r_149_apply c arg1 harg1 x0) 96 7168 inb_S128x14336_S32x128_96_7168 _ rfl) ?_
  refine ok_cons (piece arg1 harg1 x0 _ (r_149_apply c arg1 harg1 x0) 96 7040 inb_S128x14336_S32x128_96_7040 _ rfl) ?_
  refine ok_cons (piece arg1 harg1 x0 _ (r_149_apply c arg1 harg1 x0) 96 6912 inb_S128x14336_S32x128_96_6912 _ rfl) ?_
  refine ok_cons (piece arg1 harg1 x0 _ (r_149_apply c arg1 harg1 x0) 96 6784 inb_S128x14336_S32x128_96_6784 _ rfl) ?_
  refine ok_cons (piece arg1 harg1 x0 _ (r_149_apply c arg1 harg1 x0) 96 6656 inb_S128x14336_S32x128_96_6656 _ rfl) ?_
  refine ok_cons (piece arg1 harg1 x0 _ (r_149_apply c arg1 harg1 x0) 96 6528 inb_S128x14336_S32x128_96_6528 _ rfl) ?_
  refine ok_cons (piece arg1 harg1 x0 _ (r_149_apply c arg1 harg1 x0) 96 6400 inb_S128x14336_S32x128_96_6400 _ rfl) ?_
  refine ok_cons (piece arg1 harg1 x0 _ (r_149_apply c arg1 harg1 x0) 96 6272 inb_S128x14336_S32x128_96_6272 _ rfl) ?_
  refine ok_cons (piece arg1 harg1 x0 _ (r_149_apply c arg1 harg1 x0) 96 6144 inb_S128x14336_S32x128_96_6144 _ rfl) ?_
  refine ok_cons (piece arg1 harg1 x0 _ (r_149_apply c arg1 harg1 x0) 96 6016 inb_S128x14336_S32x128_96_6016 _ rfl) ?_
  refine ok_cons (piece arg1 harg1 x0 _ (r_149_apply c arg1 harg1 x0) 96 5888 inb_S128x14336_S32x128_96_5888 _ rfl) ?_
  refine ok_cons (piece arg1 harg1 x0 _ (r_149_apply c arg1 harg1 x0) 96 5760 inb_S128x14336_S32x128_96_5760 _ rfl) ?_
  refine ok_cons (piece arg1 harg1 x0 _ (r_149_apply c arg1 harg1 x0) 96 5632 inb_S128x14336_S32x128_96_5632 _ rfl) ?_
  refine ok_cons (piece arg1 harg1 x0 _ (r_149_apply c arg1 harg1 x0) 96 5504 inb_S128x14336_S32x128_96_5504 _ rfl) ?_
  refine ok_cons (piece arg1 harg1 x0 _ (r_149_apply c arg1 harg1 x0) 96 5376 inb_S128x14336_S32x128_96_5376 _ rfl) ?_
  refine ok_cons (piece arg1 harg1 x0 _ (r_149_apply c arg1 harg1 x0) 96 5248 inb_S128x14336_S32x128_96_5248 _ rfl) ?_
  refine ok_cons (piece arg1 harg1 x0 _ (r_149_apply c arg1 harg1 x0) 96 5120 inb_S128x14336_S32x128_96_5120 _ rfl) ?_
  refine ok_cons (piece arg1 harg1 x0 _ (r_149_apply c arg1 harg1 x0) 96 4992 inb_S128x14336_S32x128_96_4992 _ rfl) ?_
  refine ok_cons (piece arg1 harg1 x0 _ (r_149_apply c arg1 harg1 x0) 96 4864 inb_S128x14336_S32x128_96_4864 _ rfl) ?_
  refine ok_cons (piece arg1 harg1 x0 _ (r_149_apply c arg1 harg1 x0) 96 4736 inb_S128x14336_S32x128_96_4736 _ rfl) ?_
  refine ok_cons (piece arg1 harg1 x0 _ (r_149_apply c arg1 harg1 x0) 96 4608 inb_S128x14336_S32x128_96_4608 _ rfl) ?_
  refine ok_cons (piece arg1 harg1 x0 _ (r_149_apply c arg1 harg1 x0) 96 4480 inb_S128x14336_S32x128_96_4480 _ rfl) ?_
  refine ok_cons (piece arg1 harg1 x0 _ (r_149_apply c arg1 harg1 x0) 96 4352 inb_S128x14336_S32x128_96_4352 _ rfl) ?_
  refine ok_cons (piece arg1 harg1 x0 _ (r_149_apply c arg1 harg1 x0) 96 4224 inb_S128x14336_S32x128_96_4224 _ rfl) ?_
  refine ok_cons (piece arg1 harg1 x0 _ (r_149_apply c arg1 harg1 x0) 96 4096 inb_S128x14336_S32x128_96_4096 _ rfl) ?_
  refine ok_cons (piece arg1 harg1 x0 _ (r_149_apply c arg1 harg1 x0) 96 3968 inb_S128x14336_S32x128_96_3968 _ rfl) ?_
  refine ok_cons (piece arg1 harg1 x0 _ (r_149_apply c arg1 harg1 x0) 96 3840 inb_S128x14336_S32x128_96_3840 _ rfl) ?_
  refine ok_cons (piece arg1 harg1 x0 _ (r_149_apply c arg1 harg1 x0) 96 3712 inb_S128x14336_S32x128_96_3712 _ rfl) ?_
  refine ok_cons (piece arg1 harg1 x0 _ (r_149_apply c arg1 harg1 x0) 96 3584 inb_S128x14336_S32x128_96_3584 _ rfl) ?_
  refine ok_cons (piece arg1 harg1 x0 _ (r_149_apply c arg1 harg1 x0) 96 3456 inb_S128x14336_S32x128_96_3456 _ rfl) ?_
  refine ok_cons (piece arg1 harg1 x0 _ (r_149_apply c arg1 harg1 x0) 96 3328 inb_S128x14336_S32x128_96_3328 _ rfl) ?_
  refine ok_cons (piece arg1 harg1 x0 _ (r_149_apply c arg1 harg1 x0) 96 3200 inb_S128x14336_S32x128_96_3200 _ rfl) ?_
  refine ok_cons (piece arg1 harg1 x0 _ (r_149_apply c arg1 harg1 x0) 96 3072 inb_S128x14336_S32x128_96_3072 _ rfl) ?_
  refine ok_cons (piece arg1 harg1 x0 _ (r_149_apply c arg1 harg1 x0) 96 2944 inb_S128x14336_S32x128_96_2944 _ rfl) ?_
  refine ok_cons (piece arg1 harg1 x0 _ (r_149_apply c arg1 harg1 x0) 96 2816 inb_S128x14336_S32x128_96_2816 _ rfl) ?_
  refine ok_cons (piece arg1 harg1 x0 _ (r_149_apply c arg1 harg1 x0) 96 2688 inb_S128x14336_S32x128_96_2688 _ rfl) ?_
  refine ok_cons (piece arg1 harg1 x0 _ (r_149_apply c arg1 harg1 x0) 96 2560 inb_S128x14336_S32x128_96_2560 _ rfl) ?_
  refine ok_cons (piece arg1 harg1 x0 _ (r_149_apply c arg1 harg1 x0) 96 2432 inb_S128x14336_S32x128_96_2432 _ rfl) ?_
  refine ok_cons (piece arg1 harg1 x0 _ (r_149_apply c arg1 harg1 x0) 96 2304 inb_S128x14336_S32x128_96_2304 _ rfl) ?_
  refine ok_cons (piece arg1 harg1 x0 _ (r_149_apply c arg1 harg1 x0) 96 2176 inb_S128x14336_S32x128_96_2176 _ rfl) ?_
  refine ok_cons (piece arg1 harg1 x0 _ (r_149_apply c arg1 harg1 x0) 96 2048 inb_S128x14336_S32x128_96_2048 _ rfl) ?_
  refine ok_cons (piece arg1 harg1 x0 _ (r_149_apply c arg1 harg1 x0) 96 1920 inb_S128x14336_S32x128_96_1920 _ rfl) ?_
  refine ok_cons (piece arg1 harg1 x0 _ (r_149_apply c arg1 harg1 x0) 96 1792 inb_S128x14336_S32x128_96_1792 _ rfl) ?_
  refine ok_cons (piece arg1 harg1 x0 _ (r_149_apply c arg1 harg1 x0) 96 1664 inb_S128x14336_S32x128_96_1664 _ rfl) ?_
  refine ok_cons (piece arg1 harg1 x0 _ (r_149_apply c arg1 harg1 x0) 96 1536 inb_S128x14336_S32x128_96_1536 _ rfl) ?_
  refine ok_cons (piece arg1 harg1 x0 _ (r_149_apply c arg1 harg1 x0) 96 1408 inb_S128x14336_S32x128_96_1408 _ rfl) ?_
  refine ok_cons (piece arg1 harg1 x0 _ (r_149_apply c arg1 harg1 x0) 96 1280 inb_S128x14336_S32x128_96_1280 _ rfl) ?_
  refine ok_cons (piece arg1 harg1 x0 _ (r_149_apply c arg1 harg1 x0) 96 1152 inb_S128x14336_S32x128_96_1152 _ rfl) ?_
  refine ok_cons (piece arg1 harg1 x0 _ (r_149_apply c arg1 harg1 x0) 96 1024 inb_S128x14336_S32x128_96_1024 _ rfl) ?_
  refine ok_cons (piece arg1 harg1 x0 _ (r_149_apply c arg1 harg1 x0) 96 896 inb_S128x14336_S32x128_96_896 _ rfl) ?_
  refine ok_cons (piece arg1 harg1 x0 _ (r_149_apply c arg1 harg1 x0) 96 768 inb_S128x14336_S32x128_96_768 _ rfl) ?_
  refine ok_cons (piece arg1 harg1 x0 _ (r_149_apply c arg1 harg1 x0) 96 640 inb_S128x14336_S32x128_96_640 _ rfl) ?_
  refine ok_cons (piece arg1 harg1 x0 _ (r_149_apply c arg1 harg1 x0) 96 512 inb_S128x14336_S32x128_96_512 _ rfl) ?_
  refine ok_cons (piece arg1 harg1 x0 _ (r_149_apply c arg1 harg1 x0) 96 384 inb_S128x14336_S32x128_96_384 _ rfl) ?_
  refine ok_cons (piece arg1 harg1 x0 _ (r_149_apply c arg1 harg1 x0) 96 256 inb_S128x14336_S32x128_96_256 _ rfl) ?_
  refine ok_cons (piece arg1 harg1 x0 _ (r_149_apply c arg1 harg1 x0) 96 128 inb_S128x14336_S32x128_96_128 _ rfl) ?_
  refine ok_cons (piece arg1 harg1 x0 _ (r_149_apply c arg1 harg1 x0) 96 0 inb_S128x14336_S32x128_96_0 _ rfl) ?_
  refine ok_cons (piece arg1 harg1 x0 _ (r_103_apply c arg1 harg1 x0) 64 14208 inb_S128x14336_S32x128_64_14208 _ rfl) ?_
  refine ok_cons (piece arg1 harg1 x0 _ (r_103_apply c arg1 harg1 x0) 64 14080 inb_S128x14336_S32x128_64_14080 _ rfl) ?_
  refine ok_cons (piece arg1 harg1 x0 _ (r_103_apply c arg1 harg1 x0) 64 13952 inb_S128x14336_S32x128_64_13952 _ rfl) ?_
  refine ok_cons (piece arg1 harg1 x0 _ (r_103_apply c arg1 harg1 x0) 64 13824 inb_S128x14336_S32x128_64_13824 _ rfl) ?_
  refine ok_cons (piece arg1 harg1 x0 _ (r_103_apply c arg1 harg1 x0) 64 13696 inb_S128x14336_S32x128_64_13696 _ rfl) ?_
  refine ok_cons (piece arg1 harg1 x0 _ (r_103_apply c arg1 harg1 x0) 64 13568 inb_S128x14336_S32x128_64_13568 _ rfl) ?_
  refine ok_cons (piece arg1 harg1 x0 _ (r_103_apply c arg1 harg1 x0) 64 13440 inb_S128x14336_S32x128_64_13440 _ rfl) ?_
  refine ok_cons (piece arg1 harg1 x0 _ (r_103_apply c arg1 harg1 x0) 64 13312 inb_S128x14336_S32x128_64_13312 _ rfl) ?_
  refine ok_cons (piece arg1 harg1 x0 _ (r_103_apply c arg1 harg1 x0) 64 13184 inb_S128x14336_S32x128_64_13184 _ rfl) ?_
  refine ok_cons (piece arg1 harg1 x0 _ (r_103_apply c arg1 harg1 x0) 64 13056 inb_S128x14336_S32x128_64_13056 _ rfl) ?_
  refine ok_cons (piece arg1 harg1 x0 _ (r_103_apply c arg1 harg1 x0) 64 12928 inb_S128x14336_S32x128_64_12928 _ rfl) ?_
  refine ok_cons (piece arg1 harg1 x0 _ (r_103_apply c arg1 harg1 x0) 64 12800 inb_S128x14336_S32x128_64_12800 _ rfl) ?_
  refine ok_cons (piece arg1 harg1 x0 _ (r_103_apply c arg1 harg1 x0) 64 12672 inb_S128x14336_S32x128_64_12672 _ rfl) ?_
  refine ok_cons (piece arg1 harg1 x0 _ (r_103_apply c arg1 harg1 x0) 64 12544 inb_S128x14336_S32x128_64_12544 _ rfl) ?_
  refine ok_cons (piece arg1 harg1 x0 _ (r_103_apply c arg1 harg1 x0) 64 12416 inb_S128x14336_S32x128_64_12416 _ rfl) ?_
  refine ok_cons (piece arg1 harg1 x0 _ (r_103_apply c arg1 harg1 x0) 64 12288 inb_S128x14336_S32x128_64_12288 _ rfl) ?_
  refine ok_cons (piece arg1 harg1 x0 _ (r_103_apply c arg1 harg1 x0) 64 12160 inb_S128x14336_S32x128_64_12160 _ rfl) ?_
  refine ok_cons (piece arg1 harg1 x0 _ (r_103_apply c arg1 harg1 x0) 64 12032 inb_S128x14336_S32x128_64_12032 _ rfl) ?_
  refine ok_cons (piece arg1 harg1 x0 _ (r_103_apply c arg1 harg1 x0) 64 11904 inb_S128x14336_S32x128_64_11904 _ rfl) ?_
  refine ok_cons (piece arg1 harg1 x0 _ (r_103_apply c arg1 harg1 x0) 64 11776 inb_S128x14336_S32x128_64_11776 _ rfl) ?_
  refine ok_cons (piece arg1 harg1 x0 _ (r_103_apply c arg1 harg1 x0) 64 11648 inb_S128x14336_S32x128_64_11648 _ rfl) ?_
  refine ok_cons (piece arg1 harg1 x0 _ (r_103_apply c arg1 harg1 x0) 64 11520 inb_S128x14336_S32x128_64_11520 _ rfl) ?_
  refine ok_cons (piece arg1 harg1 x0 _ (r_103_apply c arg1 harg1 x0) 64 11392 inb_S128x14336_S32x128_64_11392 _ rfl) ?_
  refine ok_cons (piece arg1 harg1 x0 _ (r_103_apply c arg1 harg1 x0) 64 11264 inb_S128x14336_S32x128_64_11264 _ rfl) ?_
  refine ok_cons (piece arg1 harg1 x0 _ (r_103_apply c arg1 harg1 x0) 64 11136 inb_S128x14336_S32x128_64_11136 _ rfl) ?_
  refine ok_cons (piece arg1 harg1 x0 _ (r_103_apply c arg1 harg1 x0) 64 11008 inb_S128x14336_S32x128_64_11008 _ rfl) ?_
  refine ok_cons (piece arg1 harg1 x0 _ (r_103_apply c arg1 harg1 x0) 64 10880 inb_S128x14336_S32x128_64_10880 _ rfl) ?_
  refine ok_cons (piece arg1 harg1 x0 _ (r_103_apply c arg1 harg1 x0) 64 10752 inb_S128x14336_S32x128_64_10752 _ rfl) ?_
  refine ok_cons (piece arg1 harg1 x0 _ (r_103_apply c arg1 harg1 x0) 64 10624 inb_S128x14336_S32x128_64_10624 _ rfl) ?_
  refine ok_cons (piece arg1 harg1 x0 _ (r_103_apply c arg1 harg1 x0) 64 10496 inb_S128x14336_S32x128_64_10496 _ rfl) ?_
  refine ok_cons (piece arg1 harg1 x0 _ (r_103_apply c arg1 harg1 x0) 64 10368 inb_S128x14336_S32x128_64_10368 _ rfl) ?_
  refine ok_cons (piece arg1 harg1 x0 _ (r_103_apply c arg1 harg1 x0) 64 10240 inb_S128x14336_S32x128_64_10240 _ rfl) ?_
  refine ok_cons (piece arg1 harg1 x0 _ (r_103_apply c arg1 harg1 x0) 64 10112 inb_S128x14336_S32x128_64_10112 _ rfl) ?_
  refine ok_cons (piece arg1 harg1 x0 _ (r_103_apply c arg1 harg1 x0) 64 9984 inb_S128x14336_S32x128_64_9984 _ rfl) ?_
  refine ok_cons (piece arg1 harg1 x0 _ (r_103_apply c arg1 harg1 x0) 64 9856 inb_S128x14336_S32x128_64_9856 _ rfl) ?_
  refine ok_cons (piece arg1 harg1 x0 _ (r_103_apply c arg1 harg1 x0) 64 9728 inb_S128x14336_S32x128_64_9728 _ rfl) ?_
  refine ok_cons (piece arg1 harg1 x0 _ (r_103_apply c arg1 harg1 x0) 64 9600 inb_S128x14336_S32x128_64_9600 _ rfl) ?_
  refine ok_cons (piece arg1 harg1 x0 _ (r_103_apply c arg1 harg1 x0) 64 9472 inb_S128x14336_S32x128_64_9472 _ rfl) ?_
  refine ok_cons (piece arg1 harg1 x0 _ (r_103_apply c arg1 harg1 x0) 64 9344 inb_S128x14336_S32x128_64_9344 _ rfl) ?_
  refine ok_cons (piece arg1 harg1 x0 _ (r_103_apply c arg1 harg1 x0) 64 9216 inb_S128x14336_S32x128_64_9216 _ rfl) ?_
  refine ok_cons (piece arg1 harg1 x0 _ (r_103_apply c arg1 harg1 x0) 64 9088 inb_S128x14336_S32x128_64_9088 _ rfl) ?_
  refine ok_cons (piece arg1 harg1 x0 _ (r_103_apply c arg1 harg1 x0) 64 8960 inb_S128x14336_S32x128_64_8960 _ rfl) ?_
  refine ok_cons (piece arg1 harg1 x0 _ (r_103_apply c arg1 harg1 x0) 64 8832 inb_S128x14336_S32x128_64_8832 _ rfl) ?_
  refine ok_cons (piece arg1 harg1 x0 _ (r_103_apply c arg1 harg1 x0) 64 8704 inb_S128x14336_S32x128_64_8704 _ rfl) ?_
  refine ok_cons (piece arg1 harg1 x0 _ (r_103_apply c arg1 harg1 x0) 64 8576 inb_S128x14336_S32x128_64_8576 _ rfl) ?_
  refine ok_cons (piece arg1 harg1 x0 _ (r_103_apply c arg1 harg1 x0) 64 8448 inb_S128x14336_S32x128_64_8448 _ rfl) ?_
  refine ok_cons (piece arg1 harg1 x0 _ (r_103_apply c arg1 harg1 x0) 64 8320 inb_S128x14336_S32x128_64_8320 _ rfl) ?_
  refine ok_cons (piece arg1 harg1 x0 _ (r_103_apply c arg1 harg1 x0) 64 8192 inb_S128x14336_S32x128_64_8192 _ rfl) ?_
  refine ok_cons (piece arg1 harg1 x0 _ (r_103_apply c arg1 harg1 x0) 64 8064 inb_S128x14336_S32x128_64_8064 _ rfl) ?_
  refine ok_cons (piece arg1 harg1 x0 _ (r_103_apply c arg1 harg1 x0) 64 7936 inb_S128x14336_S32x128_64_7936 _ rfl) ?_
  refine ok_cons (piece arg1 harg1 x0 _ (r_103_apply c arg1 harg1 x0) 64 7808 inb_S128x14336_S32x128_64_7808 _ rfl) ?_
  refine ok_cons (piece arg1 harg1 x0 _ (r_103_apply c arg1 harg1 x0) 64 7680 inb_S128x14336_S32x128_64_7680 _ rfl) ?_
  refine ok_cons (piece arg1 harg1 x0 _ (r_103_apply c arg1 harg1 x0) 64 7552 inb_S128x14336_S32x128_64_7552 _ rfl) ?_
  refine ok_cons (piece arg1 harg1 x0 _ (r_103_apply c arg1 harg1 x0) 64 7424 inb_S128x14336_S32x128_64_7424 _ rfl) ?_
  refine ok_cons (piece arg1 harg1 x0 _ (r_103_apply c arg1 harg1 x0) 64 7296 inb_S128x14336_S32x128_64_7296 _ rfl) ?_
  refine ok_cons (piece arg1 harg1 x0 _ (r_103_apply c arg1 harg1 x0) 64 7168 inb_S128x14336_S32x128_64_7168 _ rfl) ?_
  refine ok_cons (piece arg1 harg1 x0 _ (r_103_apply c arg1 harg1 x0) 64 7040 inb_S128x14336_S32x128_64_7040 _ rfl) ?_
  refine ok_cons (piece arg1 harg1 x0 _ (r_103_apply c arg1 harg1 x0) 64 6912 inb_S128x14336_S32x128_64_6912 _ rfl) ?_
  refine ok_cons (piece arg1 harg1 x0 _ (r_103_apply c arg1 harg1 x0) 64 6784 inb_S128x14336_S32x128_64_6784 _ rfl) ?_
  refine ok_cons (piece arg1 harg1 x0 _ (r_103_apply c arg1 harg1 x0) 64 6656 inb_S128x14336_S32x128_64_6656 _ rfl) ?_
  refine ok_cons (piece arg1 harg1 x0 _ (r_103_apply c arg1 harg1 x0) 64 6528 inb_S128x14336_S32x128_64_6528 _ rfl) ?_
  refine ok_cons (piece arg1 harg1 x0 _ (r_103_apply c arg1 harg1 x0) 64 6400 inb_S128x14336_S32x128_64_6400 _ rfl) ?_
  refine ok_cons (piece arg1 harg1 x0 _ (r_103_apply c arg1 harg1 x0) 64 6272 inb_S128x14336_S32x128_64_6272 _ rfl) ?_
  refine ok_cons (piece arg1 harg1 x0 _ (r_103_apply c arg1 harg1 x0) 64 6144 inb_S128x14336_S32x128_64_6144 _ rfl) ?_
  refine ok_cons (piece arg1 harg1 x0 _ (r_103_apply c arg1 harg1 x0) 64 6016 inb_S128x14336_S32x128_64_6016 _ rfl) ?_
  refine ok_cons (piece arg1 harg1 x0 _ (r_103_apply c arg1 harg1 x0) 64 5888 inb_S128x14336_S32x128_64_5888 _ rfl) ?_
  refine ok_cons (piece arg1 harg1 x0 _ (r_103_apply c arg1 harg1 x0) 64 5760 inb_S128x14336_S32x128_64_5760 _ rfl) ?_
  refine ok_cons (piece arg1 harg1 x0 _ (r_103_apply c arg1 harg1 x0) 64 5632 inb_S128x14336_S32x128_64_5632 _ rfl) ?_
  refine ok_cons (piece arg1 harg1 x0 _ (r_103_apply c arg1 harg1 x0) 64 5504 inb_S128x14336_S32x128_64_5504 _ rfl) ?_
  refine ok_cons (piece arg1 harg1 x0 _ (r_103_apply c arg1 harg1 x0) 64 5376 inb_S128x14336_S32x128_64_5376 _ rfl) ?_
  refine ok_cons (piece arg1 harg1 x0 _ (r_103_apply c arg1 harg1 x0) 64 5248 inb_S128x14336_S32x128_64_5248 _ rfl) ?_
  refine ok_cons (piece arg1 harg1 x0 _ (r_103_apply c arg1 harg1 x0) 64 5120 inb_S128x14336_S32x128_64_5120 _ rfl) ?_
  refine ok_cons (piece arg1 harg1 x0 _ (r_103_apply c arg1 harg1 x0) 64 4992 inb_S128x14336_S32x128_64_4992 _ rfl) ?_
  refine ok_cons (piece arg1 harg1 x0 _ (r_103_apply c arg1 harg1 x0) 64 4864 inb_S128x14336_S32x128_64_4864 _ rfl) ?_
  refine ok_cons (piece arg1 harg1 x0 _ (r_103_apply c arg1 harg1 x0) 64 4736 inb_S128x14336_S32x128_64_4736 _ rfl) ?_
  refine ok_cons (piece arg1 harg1 x0 _ (r_103_apply c arg1 harg1 x0) 64 4608 inb_S128x14336_S32x128_64_4608 _ rfl) ?_
  refine ok_cons (piece arg1 harg1 x0 _ (r_103_apply c arg1 harg1 x0) 64 4480 inb_S128x14336_S32x128_64_4480 _ rfl) ?_
  refine ok_cons (piece arg1 harg1 x0 _ (r_103_apply c arg1 harg1 x0) 64 4352 inb_S128x14336_S32x128_64_4352 _ rfl) ?_
  refine ok_cons (piece arg1 harg1 x0 _ (r_103_apply c arg1 harg1 x0) 64 4224 inb_S128x14336_S32x128_64_4224 _ rfl) ?_
  refine ok_cons (piece arg1 harg1 x0 _ (r_103_apply c arg1 harg1 x0) 64 4096 inb_S128x14336_S32x128_64_4096 _ rfl) ?_
  refine ok_cons (piece arg1 harg1 x0 _ (r_103_apply c arg1 harg1 x0) 64 3968 inb_S128x14336_S32x128_64_3968 _ rfl) ?_
  refine ok_cons (piece arg1 harg1 x0 _ (r_103_apply c arg1 harg1 x0) 64 3840 inb_S128x14336_S32x128_64_3840 _ rfl) ?_
  refine ok_cons (piece arg1 harg1 x0 _ (r_103_apply c arg1 harg1 x0) 64 3712 inb_S128x14336_S32x128_64_3712 _ rfl) ?_
  refine ok_cons (piece arg1 harg1 x0 _ (r_103_apply c arg1 harg1 x0) 64 3584 inb_S128x14336_S32x128_64_3584 _ rfl) ?_
  refine ok_cons (piece arg1 harg1 x0 _ (r_103_apply c arg1 harg1 x0) 64 3456 inb_S128x14336_S32x128_64_3456 _ rfl) ?_
  refine ok_cons (piece arg1 harg1 x0 _ (r_103_apply c arg1 harg1 x0) 64 3328 inb_S128x14336_S32x128_64_3328 _ rfl) ?_
  refine ok_cons (piece arg1 harg1 x0 _ (r_103_apply c arg1 harg1 x0) 64 3200 inb_S128x14336_S32x128_64_3200 _ rfl) ?_
  refine ok_cons (piece arg1 harg1 x0 _ (r_103_apply c arg1 harg1 x0) 64 3072 inb_S128x14336_S32x128_64_3072 _ rfl) ?_
  refine ok_cons (piece arg1 harg1 x0 _ (r_103_apply c arg1 harg1 x0) 64 2944 inb_S128x14336_S32x128_64_2944 _ rfl) ?_
  refine ok_cons (piece arg1 harg1 x0 _ (r_103_apply c arg1 harg1 x0) 64 2816 inb_S128x14336_S32x128_64_2816 _ rfl) ?_
  refine ok_cons (piece arg1 harg1 x0 _ (r_103_apply c arg1 harg1 x0) 64 2688 inb_S128x14336_S32x128_64_2688 _ rfl) ?_
  refine ok_cons (piece arg1 harg1 x0 _ (r_103_apply c arg1 harg1 x0) 64 2560 inb_S128x14336_S32x128_64_2560 _ rfl) ?_
  refine ok_cons (piece arg1 harg1 x0 _ (r_103_apply c arg1 harg1 x0) 64 2432 inb_S128x14336_S32x128_64_2432 _ rfl) ?_
  refine ok_cons (piece arg1 harg1 x0 _ (r_103_apply c arg1 harg1 x0) 64 2304 inb_S128x14336_S32x128_64_2304 _ rfl) ?_
  refine ok_cons (piece arg1 harg1 x0 _ (r_103_apply c arg1 harg1 x0) 64 2176 inb_S128x14336_S32x128_64_2176 _ rfl) ?_
  refine ok_cons (piece arg1 harg1 x0 _ (r_103_apply c arg1 harg1 x0) 64 2048 inb_S128x14336_S32x128_64_2048 _ rfl) ?_
  refine ok_cons (piece arg1 harg1 x0 _ (r_103_apply c arg1 harg1 x0) 64 1920 inb_S128x14336_S32x128_64_1920 _ rfl) ?_
  refine ok_cons (piece arg1 harg1 x0 _ (r_103_apply c arg1 harg1 x0) 64 1792 inb_S128x14336_S32x128_64_1792 _ rfl) ?_
  refine ok_cons (piece arg1 harg1 x0 _ (r_103_apply c arg1 harg1 x0) 64 1664 inb_S128x14336_S32x128_64_1664 _ rfl) ?_
  refine ok_cons (piece arg1 harg1 x0 _ (r_103_apply c arg1 harg1 x0) 64 1536 inb_S128x14336_S32x128_64_1536 _ rfl) ?_
  refine ok_cons (piece arg1 harg1 x0 _ (r_103_apply c arg1 harg1 x0) 64 1408 inb_S128x14336_S32x128_64_1408 _ rfl) ?_
  refine ok_cons (piece arg1 harg1 x0 _ (r_103_apply c arg1 harg1 x0) 64 1280 inb_S128x14336_S32x128_64_1280 _ rfl) ?_
  refine ok_cons (piece arg1 harg1 x0 _ (r_103_apply c arg1 harg1 x0) 64 1152 inb_S128x14336_S32x128_64_1152 _ rfl) ?_
  refine ok_cons (piece arg1 harg1 x0 _ (r_103_apply c arg1 harg1 x0) 64 1024 inb_S128x14336_S32x128_64_1024 _ rfl) ?_
  refine ok_cons (piece arg1 harg1 x0 _ (r_103_apply c arg1 harg1 x0) 64 896 inb_S128x14336_S32x128_64_896 _ rfl) ?_
  refine ok_cons (piece arg1 harg1 x0 _ (r_103_apply c arg1 harg1 x0) 64 768 inb_S128x14336_S32x128_64_768 _ rfl) ?_
  refine ok_cons (piece arg1 harg1 x0 _ (r_103_apply c arg1 harg1 x0) 64 640 inb_S128x14336_S32x128_64_640 _ rfl) ?_
  refine ok_cons (piece arg1 harg1 x0 _ (r_103_apply c arg1 harg1 x0) 64 512 inb_S128x14336_S32x128_64_512 _ rfl) ?_
  refine ok_cons (piece arg1 harg1 x0 _ (r_103_apply c arg1 harg1 x0) 64 384 inb_S128x14336_S32x128_64_384 _ rfl) ?_
  refine ok_cons (piece arg1 harg1 x0 _ (r_103_apply c arg1 harg1 x0) 64 256 inb_S128x14336_S32x128_64_256 _ rfl) ?_
  refine ok_cons (piece arg1 harg1 x0 _ (r_103_apply c arg1 harg1 x0) 64 128 inb_S128x14336_S32x128_64_128 _ rfl) ?_
  refine ok_cons (piece arg1 harg1 x0 _ (r_103_apply c arg1 harg1 x0) 64 0 inb_S128x14336_S32x128_64_0 _ rfl) ?_
  refine ok_cons (piece arg1 harg1 x0 _ (r_57_apply c arg1 harg1 x0) 32 14208 inb_S128x14336_S32x128_32_14208 _ rfl) ?_
  refine ok_cons (piece arg1 harg1 x0 _ (r_57_apply c arg1 harg1 x0) 32 14080 inb_S128x14336_S32x128_32_14080 _ rfl) ?_
  refine ok_cons (piece arg1 harg1 x0 _ (r_57_apply c arg1 harg1 x0) 32 13952 inb_S128x14336_S32x128_32_13952 _ rfl) ?_
  refine ok_cons (piece arg1 harg1 x0 _ (r_57_apply c arg1 harg1 x0) 32 13824 inb_S128x14336_S32x128_32_13824 _ rfl) ?_
  refine ok_cons (piece arg1 harg1 x0 _ (r_57_apply c arg1 harg1 x0) 32 13696 inb_S128x14336_S32x128_32_13696 _ rfl) ?_
  refine ok_cons (piece arg1 harg1 x0 _ (r_57_apply c arg1 harg1 x0) 32 13568 inb_S128x14336_S32x128_32_13568 _ rfl) ?_
  refine ok_cons (piece arg1 harg1 x0 _ (r_57_apply c arg1 harg1 x0) 32 13440 inb_S128x14336_S32x128_32_13440 _ rfl) ?_
  refine ok_cons (piece arg1 harg1 x0 _ (r_57_apply c arg1 harg1 x0) 32 13312 inb_S128x14336_S32x128_32_13312 _ rfl) ?_
  refine ok_cons (piece arg1 harg1 x0 _ (r_57_apply c arg1 harg1 x0) 32 13184 inb_S128x14336_S32x128_32_13184 _ rfl) ?_
  refine ok_cons (piece arg1 harg1 x0 _ (r_57_apply c arg1 harg1 x0) 32 13056 inb_S128x14336_S32x128_32_13056 _ rfl) ?_
  refine ok_cons (piece arg1 harg1 x0 _ (r_57_apply c arg1 harg1 x0) 32 12928 inb_S128x14336_S32x128_32_12928 _ rfl) ?_
  refine ok_cons (piece arg1 harg1 x0 _ (r_57_apply c arg1 harg1 x0) 32 12800 inb_S128x14336_S32x128_32_12800 _ rfl) ?_
  refine ok_cons (piece arg1 harg1 x0 _ (r_57_apply c arg1 harg1 x0) 32 12672 inb_S128x14336_S32x128_32_12672 _ rfl) ?_
  refine ok_cons (piece arg1 harg1 x0 _ (r_57_apply c arg1 harg1 x0) 32 12544 inb_S128x14336_S32x128_32_12544 _ rfl) ?_
  refine ok_cons (piece arg1 harg1 x0 _ (r_57_apply c arg1 harg1 x0) 32 12416 inb_S128x14336_S32x128_32_12416 _ rfl) ?_
  refine ok_cons (piece arg1 harg1 x0 _ (r_57_apply c arg1 harg1 x0) 32 12288 inb_S128x14336_S32x128_32_12288 _ rfl) ?_
  refine ok_cons (piece arg1 harg1 x0 _ (r_57_apply c arg1 harg1 x0) 32 12160 inb_S128x14336_S32x128_32_12160 _ rfl) ?_
  refine ok_cons (piece arg1 harg1 x0 _ (r_57_apply c arg1 harg1 x0) 32 12032 inb_S128x14336_S32x128_32_12032 _ rfl) ?_
  refine ok_cons (piece arg1 harg1 x0 _ (r_57_apply c arg1 harg1 x0) 32 11904 inb_S128x14336_S32x128_32_11904 _ rfl) ?_
  refine ok_cons (piece arg1 harg1 x0 _ (r_57_apply c arg1 harg1 x0) 32 11776 inb_S128x14336_S32x128_32_11776 _ rfl) ?_
  refine ok_cons (piece arg1 harg1 x0 _ (r_57_apply c arg1 harg1 x0) 32 11648 inb_S128x14336_S32x128_32_11648 _ rfl) ?_
  refine ok_cons (piece arg1 harg1 x0 _ (r_57_apply c arg1 harg1 x0) 32 11520 inb_S128x14336_S32x128_32_11520 _ rfl) ?_
  refine ok_cons (piece arg1 harg1 x0 _ (r_57_apply c arg1 harg1 x0) 32 11392 inb_S128x14336_S32x128_32_11392 _ rfl) ?_
  refine ok_cons (piece arg1 harg1 x0 _ (r_57_apply c arg1 harg1 x0) 32 11264 inb_S128x14336_S32x128_32_11264 _ rfl) ?_
  refine ok_cons (piece arg1 harg1 x0 _ (r_57_apply c arg1 harg1 x0) 32 11136 inb_S128x14336_S32x128_32_11136 _ rfl) ?_
  refine ok_cons (piece arg1 harg1 x0 _ (r_57_apply c arg1 harg1 x0) 32 11008 inb_S128x14336_S32x128_32_11008 _ rfl) ?_
  refine ok_cons (piece arg1 harg1 x0 _ (r_57_apply c arg1 harg1 x0) 32 10880 inb_S128x14336_S32x128_32_10880 _ rfl) ?_
  refine ok_cons (piece arg1 harg1 x0 _ (r_57_apply c arg1 harg1 x0) 32 10752 inb_S128x14336_S32x128_32_10752 _ rfl) ?_
  refine ok_cons (piece arg1 harg1 x0 _ (r_57_apply c arg1 harg1 x0) 32 10624 inb_S128x14336_S32x128_32_10624 _ rfl) ?_
  refine ok_cons (piece arg1 harg1 x0 _ (r_57_apply c arg1 harg1 x0) 32 10496 inb_S128x14336_S32x128_32_10496 _ rfl) ?_
  refine ok_cons (piece arg1 harg1 x0 _ (r_57_apply c arg1 harg1 x0) 32 10368 inb_S128x14336_S32x128_32_10368 _ rfl) ?_
  refine ok_cons (piece arg1 harg1 x0 _ (r_57_apply c arg1 harg1 x0) 32 10240 inb_S128x14336_S32x128_32_10240 _ rfl) ?_
  refine ok_cons (piece arg1 harg1 x0 _ (r_57_apply c arg1 harg1 x0) 32 10112 inb_S128x14336_S32x128_32_10112 _ rfl) ?_
  refine ok_cons (piece arg1 harg1 x0 _ (r_57_apply c arg1 harg1 x0) 32 9984 inb_S128x14336_S32x128_32_9984 _ rfl) ?_
  refine ok_cons (piece arg1 harg1 x0 _ (r_57_apply c arg1 harg1 x0) 32 9856 inb_S128x14336_S32x128_32_9856 _ rfl) ?_
  refine ok_cons (piece arg1 harg1 x0 _ (r_57_apply c arg1 harg1 x0) 32 9728 inb_S128x14336_S32x128_32_9728 _ rfl) ?_
  refine ok_cons (piece arg1 harg1 x0 _ (r_57_apply c arg1 harg1 x0) 32 9600 inb_S128x14336_S32x128_32_9600 _ rfl) ?_
  refine ok_cons (piece arg1 harg1 x0 _ (r_57_apply c arg1 harg1 x0) 32 9472 inb_S128x14336_S32x128_32_9472 _ rfl) ?_
  refine ok_cons (piece arg1 harg1 x0 _ (r_57_apply c arg1 harg1 x0) 32 9344 inb_S128x14336_S32x128_32_9344 _ rfl) ?_
  refine ok_cons (piece arg1 harg1 x0 _ (r_57_apply c arg1 harg1 x0) 32 9216 inb_S128x14336_S32x128_32_9216 _ rfl) ?_
  refine ok_cons (piece arg1 harg1 x0 _ (r_57_apply c arg1 harg1 x0) 32 9088 inb_S128x14336_S32x128_32_9088 _ rfl) ?_
  refine ok_cons (piece arg1 harg1 x0 _ (r_57_apply c arg1 harg1 x0) 32 8960 inb_S128x14336_S32x128_32_8960 _ rfl) ?_
  refine ok_cons (piece arg1 harg1 x0 _ (r_57_apply c arg1 harg1 x0) 32 8832 inb_S128x14336_S32x128_32_8832 _ rfl) ?_
  refine ok_cons (piece arg1 harg1 x0 _ (r_57_apply c arg1 harg1 x0) 32 8704 inb_S128x14336_S32x128_32_8704 _ rfl) ?_
  refine ok_cons (piece arg1 harg1 x0 _ (r_57_apply c arg1 harg1 x0) 32 8576 inb_S128x14336_S32x128_32_8576 _ rfl) ?_
  refine ok_cons (piece arg1 harg1 x0 _ (r_57_apply c arg1 harg1 x0) 32 8448 inb_S128x14336_S32x128_32_8448 _ rfl) ?_
  refine ok_cons (piece arg1 harg1 x0 _ (r_57_apply c arg1 harg1 x0) 32 8320 inb_S128x14336_S32x128_32_8320 _ rfl) ?_
  refine ok_cons (piece arg1 harg1 x0 _ (r_57_apply c arg1 harg1 x0) 32 8192 inb_S128x14336_S32x128_32_8192 _ rfl) ?_
  refine ok_cons (piece arg1 harg1 x0 _ (r_57_apply c arg1 harg1 x0) 32 8064 inb_S128x14336_S32x128_32_8064 _ rfl) ?_
  refine ok_cons (piece arg1 harg1 x0 _ (r_57_apply c arg1 harg1 x0) 32 7936 inb_S128x14336_S32x128_32_7936 _ rfl) ?_
  refine ok_cons (piece arg1 harg1 x0 _ (r_57_apply c arg1 harg1 x0) 32 7808 inb_S128x14336_S32x128_32_7808 _ rfl) ?_
  refine ok_cons (piece arg1 harg1 x0 _ (r_57_apply c arg1 harg1 x0) 32 7680 inb_S128x14336_S32x128_32_7680 _ rfl) ?_
  refine ok_cons (piece arg1 harg1 x0 _ (r_57_apply c arg1 harg1 x0) 32 7552 inb_S128x14336_S32x128_32_7552 _ rfl) ?_
  refine ok_cons (piece arg1 harg1 x0 _ (r_57_apply c arg1 harg1 x0) 32 7424 inb_S128x14336_S32x128_32_7424 _ rfl) ?_
  refine ok_cons (piece arg1 harg1 x0 _ (r_57_apply c arg1 harg1 x0) 32 7296 inb_S128x14336_S32x128_32_7296 _ rfl) ?_
  refine ok_cons (piece arg1 harg1 x0 _ (r_57_apply c arg1 harg1 x0) 32 7168 inb_S128x14336_S32x128_32_7168 _ rfl) ?_
  refine ok_cons (piece arg1 harg1 x0 _ (r_57_apply c arg1 harg1 x0) 32 7040 inb_S128x14336_S32x128_32_7040 _ rfl) ?_
  refine ok_cons (piece arg1 harg1 x0 _ (r_57_apply c arg1 harg1 x0) 32 6912 inb_S128x14336_S32x128_32_6912 _ rfl) ?_
  refine ok_cons (piece arg1 harg1 x0 _ (r_57_apply c arg1 harg1 x0) 32 6784 inb_S128x14336_S32x128_32_6784 _ rfl) ?_
  refine ok_cons (piece arg1 harg1 x0 _ (r_57_apply c arg1 harg1 x0) 32 6656 inb_S128x14336_S32x128_32_6656 _ rfl) ?_
  refine ok_cons (piece arg1 harg1 x0 _ (r_57_apply c arg1 harg1 x0) 32 6528 inb_S128x14336_S32x128_32_6528 _ rfl) ?_
  refine ok_cons (piece arg1 harg1 x0 _ (r_57_apply c arg1 harg1 x0) 32 6400 inb_S128x14336_S32x128_32_6400 _ rfl) ?_
  refine ok_cons (piece arg1 harg1 x0 _ (r_57_apply c arg1 harg1 x0) 32 6272 inb_S128x14336_S32x128_32_6272 _ rfl) ?_
  refine ok_cons (piece arg1 harg1 x0 _ (r_57_apply c arg1 harg1 x0) 32 6144 inb_S128x14336_S32x128_32_6144 _ rfl) ?_
  refine ok_cons (piece arg1 harg1 x0 _ (r_57_apply c arg1 harg1 x0) 32 6016 inb_S128x14336_S32x128_32_6016 _ rfl) ?_
  refine ok_cons (piece arg1 harg1 x0 _ (r_57_apply c arg1 harg1 x0) 32 5888 inb_S128x14336_S32x128_32_5888 _ rfl) ?_
  refine ok_cons (piece arg1 harg1 x0 _ (r_57_apply c arg1 harg1 x0) 32 5760 inb_S128x14336_S32x128_32_5760 _ rfl) ?_
  refine ok_cons (piece arg1 harg1 x0 _ (r_57_apply c arg1 harg1 x0) 32 5632 inb_S128x14336_S32x128_32_5632 _ rfl) ?_
  refine ok_cons (piece arg1 harg1 x0 _ (r_57_apply c arg1 harg1 x0) 32 5504 inb_S128x14336_S32x128_32_5504 _ rfl) ?_
  refine ok_cons (piece arg1 harg1 x0 _ (r_57_apply c arg1 harg1 x0) 32 5376 inb_S128x14336_S32x128_32_5376 _ rfl) ?_
  refine ok_cons (piece arg1 harg1 x0 _ (r_57_apply c arg1 harg1 x0) 32 5248 inb_S128x14336_S32x128_32_5248 _ rfl) ?_
  refine ok_cons (piece arg1 harg1 x0 _ (r_57_apply c arg1 harg1 x0) 32 5120 inb_S128x14336_S32x128_32_5120 _ rfl) ?_
  refine ok_cons (piece arg1 harg1 x0 _ (r_57_apply c arg1 harg1 x0) 32 4992 inb_S128x14336_S32x128_32_4992 _ rfl) ?_
  refine ok_cons (piece arg1 harg1 x0 _ (r_57_apply c arg1 harg1 x0) 32 4864 inb_S128x14336_S32x128_32_4864 _ rfl) ?_
  refine ok_cons (piece arg1 harg1 x0 _ (r_57_apply c arg1 harg1 x0) 32 4736 inb_S128x14336_S32x128_32_4736 _ rfl) ?_
  refine ok_cons (piece arg1 harg1 x0 _ (r_57_apply c arg1 harg1 x0) 32 4608 inb_S128x14336_S32x128_32_4608 _ rfl) ?_
  refine ok_cons (piece arg1 harg1 x0 _ (r_57_apply c arg1 harg1 x0) 32 4480 inb_S128x14336_S32x128_32_4480 _ rfl) ?_
  refine ok_cons (piece arg1 harg1 x0 _ (r_57_apply c arg1 harg1 x0) 32 4352 inb_S128x14336_S32x128_32_4352 _ rfl) ?_
  refine ok_cons (piece arg1 harg1 x0 _ (r_57_apply c arg1 harg1 x0) 32 4224 inb_S128x14336_S32x128_32_4224 _ rfl) ?_
  refine ok_cons (piece arg1 harg1 x0 _ (r_57_apply c arg1 harg1 x0) 32 4096 inb_S128x14336_S32x128_32_4096 _ rfl) ?_
  refine ok_cons (piece arg1 harg1 x0 _ (r_57_apply c arg1 harg1 x0) 32 3968 inb_S128x14336_S32x128_32_3968 _ rfl) ?_
  refine ok_cons (piece arg1 harg1 x0 _ (r_57_apply c arg1 harg1 x0) 32 3840 inb_S128x14336_S32x128_32_3840 _ rfl) ?_
  refine ok_cons (piece arg1 harg1 x0 _ (r_57_apply c arg1 harg1 x0) 32 3712 inb_S128x14336_S32x128_32_3712 _ rfl) ?_
  refine ok_cons (piece arg1 harg1 x0 _ (r_57_apply c arg1 harg1 x0) 32 3584 inb_S128x14336_S32x128_32_3584 _ rfl) ?_
  refine ok_cons (piece arg1 harg1 x0 _ (r_57_apply c arg1 harg1 x0) 32 3456 inb_S128x14336_S32x128_32_3456 _ rfl) ?_
  refine ok_cons (piece arg1 harg1 x0 _ (r_57_apply c arg1 harg1 x0) 32 3328 inb_S128x14336_S32x128_32_3328 _ rfl) ?_
  refine ok_cons (piece arg1 harg1 x0 _ (r_57_apply c arg1 harg1 x0) 32 3200 inb_S128x14336_S32x128_32_3200 _ rfl) ?_
  refine ok_cons (piece arg1 harg1 x0 _ (r_57_apply c arg1 harg1 x0) 32 3072 inb_S128x14336_S32x128_32_3072 _ rfl) ?_
  refine ok_cons (piece arg1 harg1 x0 _ (r_57_apply c arg1 harg1 x0) 32 2944 inb_S128x14336_S32x128_32_2944 _ rfl) ?_
  refine ok_cons (piece arg1 harg1 x0 _ (r_57_apply c arg1 harg1 x0) 32 2816 inb_S128x14336_S32x128_32_2816 _ rfl) ?_
  refine ok_cons (piece arg1 harg1 x0 _ (r_57_apply c arg1 harg1 x0) 32 2688 inb_S128x14336_S32x128_32_2688 _ rfl) ?_
  refine ok_cons (piece arg1 harg1 x0 _ (r_57_apply c arg1 harg1 x0) 32 2560 inb_S128x14336_S32x128_32_2560 _ rfl) ?_
  refine ok_cons (piece arg1 harg1 x0 _ (r_57_apply c arg1 harg1 x0) 32 2432 inb_S128x14336_S32x128_32_2432 _ rfl) ?_
  refine ok_cons (piece arg1 harg1 x0 _ (r_57_apply c arg1 harg1 x0) 32 2304 inb_S128x14336_S32x128_32_2304 _ rfl) ?_
  refine ok_cons (piece arg1 harg1 x0 _ (r_57_apply c arg1 harg1 x0) 32 2176 inb_S128x14336_S32x128_32_2176 _ rfl) ?_
  refine ok_cons (piece arg1 harg1 x0 _ (r_57_apply c arg1 harg1 x0) 32 2048 inb_S128x14336_S32x128_32_2048 _ rfl) ?_
  refine ok_cons (piece arg1 harg1 x0 _ (r_57_apply c arg1 harg1 x0) 32 1920 inb_S128x14336_S32x128_32_1920 _ rfl) ?_
  refine ok_cons (piece arg1 harg1 x0 _ (r_57_apply c arg1 harg1 x0) 32 1792 inb_S128x14336_S32x128_32_1792 _ rfl) ?_
  refine ok_cons (piece arg1 harg1 x0 _ (r_57_apply c arg1 harg1 x0) 32 1664 inb_S128x14336_S32x128_32_1664 _ rfl) ?_
  refine ok_cons (piece arg1 harg1 x0 _ (r_57_apply c arg1 harg1 x0) 32 1536 inb_S128x14336_S32x128_32_1536 _ rfl) ?_
  refine ok_cons (piece arg1 harg1 x0 _ (r_57_apply c arg1 harg1 x0) 32 1408 inb_S128x14336_S32x128_32_1408 _ rfl) ?_
  refine ok_cons (piece arg1 harg1 x0 _ (r_57_apply c arg1 harg1 x0) 32 1280 inb_S128x14336_S32x128_32_1280 _ rfl) ?_
  refine ok_cons (piece arg1 harg1 x0 _ (r_57_apply c arg1 harg1 x0) 32 1152 inb_S128x14336_S32x128_32_1152 _ rfl) ?_
  refine ok_cons (piece arg1 harg1 x0 _ (r_57_apply c arg1 harg1 x0) 32 1024 inb_S128x14336_S32x128_32_1024 _ rfl) ?_
  refine ok_cons (piece arg1 harg1 x0 _ (r_57_apply c arg1 harg1 x0) 32 896 inb_S128x14336_S32x128_32_896 _ rfl) ?_
  refine ok_cons (piece arg1 harg1 x0 _ (r_57_apply c arg1 harg1 x0) 32 768 inb_S128x14336_S32x128_32_768 _ rfl) ?_
  refine ok_cons (piece arg1 harg1 x0 _ (r_57_apply c arg1 harg1 x0) 32 640 inb_S128x14336_S32x128_32_640 _ rfl) ?_
  refine ok_cons (piece arg1 harg1 x0 _ (r_57_apply c arg1 harg1 x0) 32 512 inb_S128x14336_S32x128_32_512 _ rfl) ?_
  refine ok_cons (piece arg1 harg1 x0 _ (r_57_apply c arg1 harg1 x0) 32 384 inb_S128x14336_S32x128_32_384 _ rfl) ?_
  refine ok_cons (piece arg1 harg1 x0 _ (r_57_apply c arg1 harg1 x0) 32 256 inb_S128x14336_S32x128_32_256 _ rfl) ?_
  refine ok_cons (piece arg1 harg1 x0 _ (r_57_apply c arg1 harg1 x0) 32 128 inb_S128x14336_S32x128_32_128 _ rfl) ?_
  refine ok_cons (piece arg1 harg1 x0 _ (r_57_apply c arg1 harg1 x0) 32 0 inb_S128x14336_S32x128_32_0 _ rfl) ?_
  refine ok_cons (piece arg1 harg1 x0 _ (r_11_apply c arg1 harg1 x0) 0 14208 inb_S128x14336_S32x128_0_14208 _ rfl) ?_
  refine ok_cons (piece arg1 harg1 x0 _ (r_11_apply c arg1 harg1 x0) 0 14080 inb_S128x14336_S32x128_0_14080 _ rfl) ?_
  refine ok_cons (piece arg1 harg1 x0 _ (r_11_apply c arg1 harg1 x0) 0 13952 inb_S128x14336_S32x128_0_13952 _ rfl) ?_
  refine ok_cons (piece arg1 harg1 x0 _ (r_11_apply c arg1 harg1 x0) 0 13824 inb_S128x14336_S32x128_0_13824 _ rfl) ?_
  refine ok_cons (piece arg1 harg1 x0 _ (r_11_apply c arg1 harg1 x0) 0 13696 inb_S128x14336_S32x128_0_13696 _ rfl) ?_
  refine ok_cons (piece arg1 harg1 x0 _ (r_11_apply c arg1 harg1 x0) 0 13568 inb_S128x14336_S32x128_0_13568 _ rfl) ?_
  refine ok_cons (piece arg1 harg1 x0 _ (r_11_apply c arg1 harg1 x0) 0 13440 inb_S128x14336_S32x128_0_13440 _ rfl) ?_
  refine ok_cons (piece arg1 harg1 x0 _ (r_11_apply c arg1 harg1 x0) 0 13312 inb_S128x14336_S32x128_0_13312 _ rfl) ?_
  refine ok_cons (piece arg1 harg1 x0 _ (r_11_apply c arg1 harg1 x0) 0 13184 inb_S128x14336_S32x128_0_13184 _ rfl) ?_
  refine ok_cons (piece arg1 harg1 x0 _ (r_11_apply c arg1 harg1 x0) 0 13056 inb_S128x14336_S32x128_0_13056 _ rfl) ?_
  refine ok_cons (piece arg1 harg1 x0 _ (r_11_apply c arg1 harg1 x0) 0 12928 inb_S128x14336_S32x128_0_12928 _ rfl) ?_
  refine ok_cons (piece arg1 harg1 x0 _ (r_11_apply c arg1 harg1 x0) 0 12800 inb_S128x14336_S32x128_0_12800 _ rfl) ?_
  refine ok_cons (piece arg1 harg1 x0 _ (r_11_apply c arg1 harg1 x0) 0 12672 inb_S128x14336_S32x128_0_12672 _ rfl) ?_
  refine ok_cons (piece arg1 harg1 x0 _ (r_11_apply c arg1 harg1 x0) 0 12544 inb_S128x14336_S32x128_0_12544 _ rfl) ?_
  refine ok_cons (piece arg1 harg1 x0 _ (r_11_apply c arg1 harg1 x0) 0 12416 inb_S128x14336_S32x128_0_12416 _ rfl) ?_
  refine ok_cons (piece arg1 harg1 x0 _ (r_11_apply c arg1 harg1 x0) 0 12288 inb_S128x14336_S32x128_0_12288 _ rfl) ?_
  refine ok_cons (piece arg1 harg1 x0 _ (r_11_apply c arg1 harg1 x0) 0 12160 inb_S128x14336_S32x128_0_12160 _ rfl) ?_
  refine ok_cons (piece arg1 harg1 x0 _ (r_11_apply c arg1 harg1 x0) 0 12032 inb_S128x14336_S32x128_0_12032 _ rfl) ?_
  refine ok_cons (piece arg1 harg1 x0 _ (r_11_apply c arg1 harg1 x0) 0 11904 inb_S128x14336_S32x128_0_11904 _ rfl) ?_
  refine ok_cons (piece arg1 harg1 x0 _ (r_11_apply c arg1 harg1 x0) 0 11776 inb_S128x14336_S32x128_0_11776 _ rfl) ?_
  refine ok_cons (piece arg1 harg1 x0 _ (r_11_apply c arg1 harg1 x0) 0 11648 inb_S128x14336_S32x128_0_11648 _ rfl) ?_
  refine ok_cons (piece arg1 harg1 x0 _ (r_11_apply c arg1 harg1 x0) 0 11520 inb_S128x14336_S32x128_0_11520 _ rfl) ?_
  refine ok_cons (piece arg1 harg1 x0 _ (r_11_apply c arg1 harg1 x0) 0 11392 inb_S128x14336_S32x128_0_11392 _ rfl) ?_
  refine ok_cons (piece arg1 harg1 x0 _ (r_11_apply c arg1 harg1 x0) 0 11264 inb_S128x14336_S32x128_0_11264 _ rfl) ?_
  refine ok_cons (piece arg1 harg1 x0 _ (r_11_apply c arg1 harg1 x0) 0 11136 inb_S128x14336_S32x128_0_11136 _ rfl) ?_
  refine ok_cons (piece arg1 harg1 x0 _ (r_11_apply c arg1 harg1 x0) 0 11008 inb_S128x14336_S32x128_0_11008 _ rfl) ?_
  refine ok_cons (piece arg1 harg1 x0 _ (r_11_apply c arg1 harg1 x0) 0 10880 inb_S128x14336_S32x128_0_10880 _ rfl) ?_
  refine ok_cons (piece arg1 harg1 x0 _ (r_11_apply c arg1 harg1 x0) 0 10752 inb_S128x14336_S32x128_0_10752 _ rfl) ?_
  refine ok_cons (piece arg1 harg1 x0 _ (r_11_apply c arg1 harg1 x0) 0 10624 inb_S128x14336_S32x128_0_10624 _ rfl) ?_
  refine ok_cons (piece arg1 harg1 x0 _ (r_11_apply c arg1 harg1 x0) 0 10496 inb_S128x14336_S32x128_0_10496 _ rfl) ?_
  refine ok_cons (piece arg1 harg1 x0 _ (r_11_apply c arg1 harg1 x0) 0 10368 inb_S128x14336_S32x128_0_10368 _ rfl) ?_
  refine ok_cons (piece arg1 harg1 x0 _ (r_11_apply c arg1 harg1 x0) 0 10240 inb_S128x14336_S32x128_0_10240 _ rfl) ?_
  refine ok_cons (piece arg1 harg1 x0 _ (r_11_apply c arg1 harg1 x0) 0 10112 inb_S128x14336_S32x128_0_10112 _ rfl) ?_
  refine ok_cons (piece arg1 harg1 x0 _ (r_11_apply c arg1 harg1 x0) 0 9984 inb_S128x14336_S32x128_0_9984 _ rfl) ?_
  refine ok_cons (piece arg1 harg1 x0 _ (r_11_apply c arg1 harg1 x0) 0 9856 inb_S128x14336_S32x128_0_9856 _ rfl) ?_
  refine ok_cons (piece arg1 harg1 x0 _ (r_11_apply c arg1 harg1 x0) 0 9728 inb_S128x14336_S32x128_0_9728 _ rfl) ?_
  refine ok_cons (piece arg1 harg1 x0 _ (r_11_apply c arg1 harg1 x0) 0 9600 inb_S128x14336_S32x128_0_9600 _ rfl) ?_
  refine ok_cons (piece arg1 harg1 x0 _ (r_11_apply c arg1 harg1 x0) 0 9472 inb_S128x14336_S32x128_0_9472 _ rfl) ?_
  refine ok_cons (piece arg1 harg1 x0 _ (r_11_apply c arg1 harg1 x0) 0 9344 inb_S128x14336_S32x128_0_9344 _ rfl) ?_
  refine ok_cons (piece arg1 harg1 x0 _ (r_11_apply c arg1 harg1 x0) 0 9216 inb_S128x14336_S32x128_0_9216 _ rfl) ?_
  refine ok_cons (piece arg1 harg1 x0 _ (r_11_apply c arg1 harg1 x0) 0 9088 inb_S128x14336_S32x128_0_9088 _ rfl) ?_
  refine ok_cons (piece arg1 harg1 x0 _ (r_11_apply c arg1 harg1 x0) 0 8960 inb_S128x14336_S32x128_0_8960 _ rfl) ?_
  refine ok_cons (piece arg1 harg1 x0 _ (r_11_apply c arg1 harg1 x0) 0 8832 inb_S128x14336_S32x128_0_8832 _ rfl) ?_
  refine ok_cons (piece arg1 harg1 x0 _ (r_11_apply c arg1 harg1 x0) 0 8704 inb_S128x14336_S32x128_0_8704 _ rfl) ?_
  refine ok_cons (piece arg1 harg1 x0 _ (r_11_apply c arg1 harg1 x0) 0 8576 inb_S128x14336_S32x128_0_8576 _ rfl) ?_
  refine ok_cons (piece arg1 harg1 x0 _ (r_11_apply c arg1 harg1 x0) 0 8448 inb_S128x14336_S32x128_0_8448 _ rfl) ?_
  refine ok_cons (piece arg1 harg1 x0 _ (r_11_apply c arg1 harg1 x0) 0 8320 inb_S128x14336_S32x128_0_8320 _ rfl) ?_
  refine ok_cons (piece arg1 harg1 x0 _ (r_11_apply c arg1 harg1 x0) 0 8192 inb_S128x14336_S32x128_0_8192 _ rfl) ?_
  refine ok_cons (piece arg1 harg1 x0 _ (r_11_apply c arg1 harg1 x0) 0 8064 inb_S128x14336_S32x128_0_8064 _ rfl) ?_
  refine ok_cons (piece arg1 harg1 x0 _ (r_11_apply c arg1 harg1 x0) 0 7936 inb_S128x14336_S32x128_0_7936 _ rfl) ?_
  refine ok_cons (piece arg1 harg1 x0 _ (r_11_apply c arg1 harg1 x0) 0 7808 inb_S128x14336_S32x128_0_7808 _ rfl) ?_
  refine ok_cons (piece arg1 harg1 x0 _ (r_11_apply c arg1 harg1 x0) 0 7680 inb_S128x14336_S32x128_0_7680 _ rfl) ?_
  refine ok_cons (piece arg1 harg1 x0 _ (r_11_apply c arg1 harg1 x0) 0 7552 inb_S128x14336_S32x128_0_7552 _ rfl) ?_
  refine ok_cons (piece arg1 harg1 x0 _ (r_11_apply c arg1 harg1 x0) 0 7424 inb_S128x14336_S32x128_0_7424 _ rfl) ?_
  refine ok_cons (piece arg1 harg1 x0 _ (r_11_apply c arg1 harg1 x0) 0 7296 inb_S128x14336_S32x128_0_7296 _ rfl) ?_
  refine ok_cons (piece arg1 harg1 x0 _ (r_11_apply c arg1 harg1 x0) 0 7168 inb_S128x14336_S32x128_0_7168 _ rfl) ?_
  refine ok_cons (piece arg1 harg1 x0 _ (r_11_apply c arg1 harg1 x0) 0 7040 inb_S128x14336_S32x128_0_7040 _ rfl) ?_
  refine ok_cons (piece arg1 harg1 x0 _ (r_11_apply c arg1 harg1 x0) 0 6912 inb_S128x14336_S32x128_0_6912 _ rfl) ?_
  refine ok_cons (piece arg1 harg1 x0 _ (r_11_apply c arg1 harg1 x0) 0 6784 inb_S128x14336_S32x128_0_6784 _ rfl) ?_
  refine ok_cons (piece arg1 harg1 x0 _ (r_11_apply c arg1 harg1 x0) 0 6656 inb_S128x14336_S32x128_0_6656 _ rfl) ?_
  refine ok_cons (piece arg1 harg1 x0 _ (r_11_apply c arg1 harg1 x0) 0 6528 inb_S128x14336_S32x128_0_6528 _ rfl) ?_
  refine ok_cons (piece arg1 harg1 x0 _ (r_11_apply c arg1 harg1 x0) 0 6400 inb_S128x14336_S32x128_0_6400 _ rfl) ?_
  refine ok_cons (piece arg1 harg1 x0 _ (r_11_apply c arg1 harg1 x0) 0 6272 inb_S128x14336_S32x128_0_6272 _ rfl) ?_
  refine ok_cons (piece arg1 harg1 x0 _ (r_11_apply c arg1 harg1 x0) 0 6144 inb_S128x14336_S32x128_0_6144 _ rfl) ?_
  refine ok_cons (piece arg1 harg1 x0 _ (r_11_apply c arg1 harg1 x0) 0 6016 inb_S128x14336_S32x128_0_6016 _ rfl) ?_
  refine ok_cons (piece arg1 harg1 x0 _ (r_11_apply c arg1 harg1 x0) 0 5888 inb_S128x14336_S32x128_0_5888 _ rfl) ?_
  refine ok_cons (piece arg1 harg1 x0 _ (r_11_apply c arg1 harg1 x0) 0 5760 inb_S128x14336_S32x128_0_5760 _ rfl) ?_
  refine ok_cons (piece arg1 harg1 x0 _ (r_11_apply c arg1 harg1 x0) 0 5632 inb_S128x14336_S32x128_0_5632 _ rfl) ?_
  refine ok_cons (piece arg1 harg1 x0 _ (r_11_apply c arg1 harg1 x0) 0 5504 inb_S128x14336_S32x128_0_5504 _ rfl) ?_
  refine ok_cons (piece arg1 harg1 x0 _ (r_11_apply c arg1 harg1 x0) 0 5376 inb_S128x14336_S32x128_0_5376 _ rfl) ?_
  refine ok_cons (piece arg1 harg1 x0 _ (r_11_apply c arg1 harg1 x0) 0 5248 inb_S128x14336_S32x128_0_5248 _ rfl) ?_
  refine ok_cons (piece arg1 harg1 x0 _ (r_11_apply c arg1 harg1 x0) 0 5120 inb_S128x14336_S32x128_0_5120 _ rfl) ?_
  refine ok_cons (piece arg1 harg1 x0 _ (r_11_apply c arg1 harg1 x0) 0 4992 inb_S128x14336_S32x128_0_4992 _ rfl) ?_
  refine ok_cons (piece arg1 harg1 x0 _ (r_11_apply c arg1 harg1 x0) 0 4864 inb_S128x14336_S32x128_0_4864 _ rfl) ?_
  refine ok_cons (piece arg1 harg1 x0 _ (r_11_apply c arg1 harg1 x0) 0 4736 inb_S128x14336_S32x128_0_4736 _ rfl) ?_
  refine ok_cons (piece arg1 harg1 x0 _ (r_11_apply c arg1 harg1 x0) 0 4608 inb_S128x14336_S32x128_0_4608 _ rfl) ?_
  refine ok_cons (piece arg1 harg1 x0 _ (r_11_apply c arg1 harg1 x0) 0 4480 inb_S128x14336_S32x128_0_4480 _ rfl) ?_
  refine ok_cons (piece arg1 harg1 x0 _ (r_11_apply c arg1 harg1 x0) 0 4352 inb_S128x14336_S32x128_0_4352 _ rfl) ?_
  refine ok_cons (piece arg1 harg1 x0 _ (r_11_apply c arg1 harg1 x0) 0 4224 inb_S128x14336_S32x128_0_4224 _ rfl) ?_
  refine ok_cons (piece arg1 harg1 x0 _ (r_11_apply c arg1 harg1 x0) 0 4096 inb_S128x14336_S32x128_0_4096 _ rfl) ?_
  refine ok_cons (piece arg1 harg1 x0 _ (r_11_apply c arg1 harg1 x0) 0 3968 inb_S128x14336_S32x128_0_3968 _ rfl) ?_
  refine ok_cons (piece arg1 harg1 x0 _ (r_11_apply c arg1 harg1 x0) 0 3840 inb_S128x14336_S32x128_0_3840 _ rfl) ?_
  refine ok_cons (piece arg1 harg1 x0 _ (r_11_apply c arg1 harg1 x0) 0 3712 inb_S128x14336_S32x128_0_3712 _ rfl) ?_
  refine ok_cons (piece arg1 harg1 x0 _ (r_11_apply c arg1 harg1 x0) 0 3584 inb_S128x14336_S32x128_0_3584 _ rfl) ?_
  refine ok_cons (piece arg1 harg1 x0 _ (r_11_apply c arg1 harg1 x0) 0 3456 inb_S128x14336_S32x128_0_3456 _ rfl) ?_
  refine ok_cons (piece arg1 harg1 x0 _ (r_11_apply c arg1 harg1 x0) 0 3328 inb_S128x14336_S32x128_0_3328 _ rfl) ?_
  refine ok_cons (piece arg1 harg1 x0 _ (r_11_apply c arg1 harg1 x0) 0 3200 inb_S128x14336_S32x128_0_3200 _ rfl) ?_
  refine ok_cons (piece arg1 harg1 x0 _ (r_11_apply c arg1 harg1 x0) 0 3072 inb_S128x14336_S32x128_0_3072 _ rfl) ?_
  refine ok_cons (piece arg1 harg1 x0 _ (r_11_apply c arg1 harg1 x0) 0 2944 inb_S128x14336_S32x128_0_2944 _ rfl) ?_
  refine ok_cons (piece arg1 harg1 x0 _ (r_11_apply c arg1 harg1 x0) 0 2816 inb_S128x14336_S32x128_0_2816 _ rfl) ?_
  refine ok_cons (piece arg1 harg1 x0 _ (r_11_apply c arg1 harg1 x0) 0 2688 inb_S128x14336_S32x128_0_2688 _ rfl) ?_
  refine ok_cons (piece arg1 harg1 x0 _ (r_11_apply c arg1 harg1 x0) 0 2560 inb_S128x14336_S32x128_0_2560 _ rfl) ?_
  refine ok_cons (piece arg1 harg1 x0 _ (r_11_apply c arg1 harg1 x0) 0 2432 inb_S128x14336_S32x128_0_2432 _ rfl) ?_
  refine ok_cons (piece arg1 harg1 x0 _ (r_11_apply c arg1 harg1 x0) 0 2304 inb_S128x14336_S32x128_0_2304 _ rfl) ?_
  refine ok_cons (piece arg1 harg1 x0 _ (r_11_apply c arg1 harg1 x0) 0 2176 inb_S128x14336_S32x128_0_2176 _ rfl) ?_
  refine ok_cons (piece arg1 harg1 x0 _ (r_11_apply c arg1 harg1 x0) 0 2048 inb_S128x14336_S32x128_0_2048 _ rfl) ?_
  refine ok_cons (piece arg1 harg1 x0 _ (r_11_apply c arg1 harg1 x0) 0 1920 inb_S128x14336_S32x128_0_1920 _ rfl) ?_
  refine ok_cons (piece arg1 harg1 x0 _ (r_11_apply c arg1 harg1 x0) 0 1792 inb_S128x14336_S32x128_0_1792 _ rfl) ?_
  refine ok_cons (piece arg1 harg1 x0 _ (r_11_apply c arg1 harg1 x0) 0 1664 inb_S128x14336_S32x128_0_1664 _ rfl) ?_
  refine ok_cons (piece arg1 harg1 x0 _ (r_11_apply c arg1 harg1 x0) 0 1536 inb_S128x14336_S32x128_0_1536 _ rfl) ?_
  refine ok_cons (piece arg1 harg1 x0 _ (r_11_apply c arg1 harg1 x0) 0 1408 inb_S128x14336_S32x128_0_1408 _ rfl) ?_
  refine ok_cons (piece arg1 harg1 x0 _ (r_11_apply c arg1 harg1 x0) 0 1280 inb_S128x14336_S32x128_0_1280 _ rfl) ?_
  refine ok_cons (piece arg1 harg1 x0 _ (r_11_apply c arg1 harg1 x0) 0 1152 inb_S128x14336_S32x128_0_1152 _ rfl) ?_
  refine ok_cons (piece arg1 harg1 x0 _ (r_11_apply c arg1 harg1 x0) 0 1024 inb_S128x14336_S32x128_0_1024 _ rfl) ?_
  refine ok_cons (piece arg1 harg1 x0 _ (r_11_apply c arg1 harg1 x0) 0 896 inb_S128x14336_S32x128_0_896 _ rfl) ?_
  refine ok_cons (piece arg1 harg1 x0 _ (r_11_apply c arg1 harg1 x0) 0 768 inb_S128x14336_S32x128_0_768 _ rfl) ?_
  refine ok_cons (piece arg1 harg1 x0 _ (r_11_apply c arg1 harg1 x0) 0 640 inb_S128x14336_S32x128_0_640 _ rfl) ?_
  refine ok_cons (piece arg1 harg1 x0 _ (r_11_apply c arg1 harg1 x0) 0 512 inb_S128x14336_S32x128_0_512 _ rfl) ?_
  refine ok_cons (piece arg1 harg1 x0 _ (r_11_apply c arg1 harg1 x0) 0 384 inb_S128x14336_S32x128_0_384 _ rfl) ?_
  refine ok_cons (piece arg1 harg1 x0 _ (r_11_apply c arg1 harg1 x0) 0 256 inb_S128x14336_S32x128_0_256 _ rfl) ?_
  refine ok_cons (piece arg1 harg1 x0 _ (r_11_apply c arg1 harg1 x0) 0 128 inb_S128x14336_S32x128_0_128 _ rfl) ?_
  refine ok_cons (piece arg1 harg1 x0 _ (r_11_apply c arg1 harg1 x0) 0 0 inb_S128x14336_S32x128_0_0 _ rfl) ?_
  exact fun q hq => absurd hq List.not_mem_nil

theorem out_1 : out0_A_1 c i arg1 harg1 arg2 harg2 arg3 harg3 arg4 harg4 x0 = codes x0 := by
  unfold out0_A_1
  rw [View.read_writes_eq_canon _ _ _ (cover0_A_1 c i arg1 harg1 arg2 harg2 arg3 harg3 arg4 harg4 x0)]
  funext y
  exact View.canon_apply_of_pieces (codes x0) _ (all_ok c i arg1 harg1 arg2 harg2 arg3 harg3 arg4 harg4 x0) y
    (cover0_A_1 c i arg1 harg1 arg2 harg2 arg3 harg3 arg4 harg4 x0 y)

end Cert.QuantiseIdeal.Hand

end
-- ==== Proof.QI.Scales.lean ====
/-
# The scales of a block

The four stores of scales hold each row's scale in all 128 lanes; read back, transposed, and cut to the first row, they are the
block's scales as one row of 128 lanes.
-/
module

public import proofs.«01_k».proof.Proof.QI.Codes
public import proofs.«01_k».proof.Proof.QRI.Spec
public import Idealize.ShloMosaic.Lib.StableHlo.RunRead
public import Idealize.ShloMosaic.Lib.Pointwise

@[expose] public section

set_option maxRecDepth 16384

noncomputable section

namespace Cert.QuantiseIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.QuantiseIdeal Cert.QuantiseIdeal.Gen

open Cert.QuantiseReferenceIdeal.Hand (mag amax scaleOf codeOf)

/-- Each row's scale in all 128 lanes. -/
def scales (x0 : Vec Ideal S128x14336 .bf16) : Vec Ideal S128x128 .f32 := fun y : S128x128.Idx => scaleAt x0 (y 0).val

/-- A stored piece holds the scales its rectangle names. -/
def OkScale (x0 : Vec Ideal S128x14336 .bf16) (q : View.Piece (Elt Ideal) S128x128 .f32) : Prop := ∀ x : q.1.shape.Idx, q.2 x = scales x0 (q.1.emb x)

theorem okScale_cons {x0 : Vec Ideal S128x14336 .bf16} {q : View.Piece (Elt Ideal) S128x128 .f32} {L : List (View.Piece (Elt Ideal) S128x128 .f32)}
    (h : OkScale x0 q) (hL : ∀ q ∈ L, OkScale x0 q) : ∀ q' ∈ q :: L, OkScale x0 q' := List.forall_mem_cons.2 ⟨h, hL⟩

theorem scale_piece (x0 : Vec Ideal S128x14336 .bf16) (s : FVec Ideal S32x128 .f32) {a : ℕ} (hs : ∀ p l, s (ix2 p l) = scaleAt x0 (a + p.val))
    (h : ∀ d, (![a, 0] : Fin 2 → ℕ) d + (![32, 128] : Fin 2 → ℕ) d ≤ S128x128.size d) (w : FVec Ideal S32x128 .f32) (hw : w = s) :
    OkScale x0 ⟨Rect.unit (s := S128x128) ![a, 0] ![32, 128] h, w⟩ := by
  subst hw
  intro x
  refine (congrArg w (eq_ix2 (x : S32x128.Idx))).trans ((hs (x 0) (x 1)).trans ?_)
  show _ = scaleAt x0 (a + 1 * (x 0).val)
  rw [Nat.one_mul]

variable (c : Dev nD) (i : grid0.Coords) (arg1 : Memref sig .tc .vmem S128x14336 .bf16) (harg1 : arg1.IsWhole)
  (arg2 : Memref sig .tc .vmem S128x14336 .i8) (harg2 : arg2.IsWhole) (arg3 : Memref sig .tc .vmem S128x128 .f32) (harg3 : arg3.IsWhole)
  (arg4 : Memref sig .tc .vmem S1x1x128 .f32) (harg4 : arg4.IsWhole) (x0 : Vec Ideal S128x14336 .bf16)

theorem scales_ok : ∀ q ∈ kernelRun0_A.sl.H2_4 c arg1 harg1 x0, OkScale x0 q := by
  unfold kernelRun0_A.sl.H2_4
  refine okScale_cons (scale_piece x0 _ (r_149_apply c arg1 harg1 x0) inb_S128x128_S32x128_96_0 _ rfl) ?_
  refine okScale_cons (scale_piece x0 _ (r_103_apply c arg1 harg1 x0) inb_S128x128_S32x128_64_0 _ rfl) ?_
  refine okScale_cons (scale_piece x0 _ (r_57_apply c arg1 harg1 x0) inb_S128x128_S32x128_32_0 _ rfl) ?_
  refine okScale_cons (scale_piece x0 _ (r_11_apply c arg1 harg1 x0) inb_S128x128_S32x128_0_0 _ rfl) ?_
  exact fun q hq => absurd hq List.not_mem_nil

include i arg2 harg2 arg3 harg3 arg4 harg4 in
theorem cover_scales (y : S128x128.Idx) : ∃ q ∈ kernelRun0_A.sl.H2_4 c arg1 harg1 x0, y ∈ q.1.set :=
  cover0_A_2 c i arg1 harg1 arg2 harg2 arg3 harg3 arg4 harg4 x0 y

include i arg2 harg2 arg3 harg3 arg4 harg4 in
theorem canon_scales : View.canon (kernelRun0_A.sl.H2_4 c arg1 harg1 x0) = scales x0 := by
  funext y
  exact View.canon_apply_of_pieces (scales x0) _ (scales_ok c arg1 harg1 x0) y
    (cover_scales c i arg1 harg1 arg2 harg2 arg3 harg3 arg4 harg4 x0 y)

theorem out_2 : out0_A_2 c i arg1 harg1 arg2 harg2 arg3 harg3 arg4 harg4 x0 = scales x0 := by
  unfold out0_A_2
  rw [View.read_writes_eq_canon _ _ _ (cover0_A_2 c i arg1 harg1 arg2 harg2 arg3 harg3 arg4 harg4 x0)]
  exact canon_scales c i arg1 harg1 arg2 harg2 arg3 harg3 arg4 harg4 x0

include i arg2 harg2 harg3 arg4 harg4 in
/-- The scales read back: the block of them. -/
theorem read_back : kernelRun0_A.sl.v6764 c arg1 harg1 arg3 x0 = scales x0 := by
  unfold kernelRun0_A.sl.v6764
  rw [View.readCov_eq_canon_ld _ _ _ (cover_scales c i arg1 harg1 arg2 harg2 arg3 harg3 arg4 harg4 x0)]
  refine (congrArg (fun z : Vec Ideal S128x128 .f32 => View.ld z (Rect.unit (s := S128x128) ![0, 0] ![128, 128] inb_S128x128_S128x128_0_0))
    (canon_scales c i arg1 harg1 arg2 harg2 arg3 harg3 arg4 harg4 x0)).trans ?_
  exact View.ld_unit_zero (by funext d; match d with | ⟨0, _⟩ => rfl | ⟨1, _⟩ => rfl) _ _

theorem row_apply (v : Vec Ideal S128x128 .f32) (j : Fin 128) : k0_pay3 v (ix3 0 0 j) = v (ix2 j 0) := by
  unfold k0_pay3
  rw [shapeCast_self]
  refine (shapeCast_apply _ _ (ix3 0 0 j) (ix2 0 j) ?_).trans ?_
  · rw [Shape.rowMajor_val_two, Shape.rowMajor_val_three]
    show 0 * 128 + j.val = (0 * 1 + 0) * 128 + j.val
    omega
  · pointwise

theorem out_3 (j : Fin 128) : out0_A_3 c i arg1 harg1 arg2 harg2 arg3 harg3 arg4 harg4 x0 (ix3 0 0 j) = scaleAt x0 j.val := by
  unfold out0_A_3
  rw [View.read_writes_eq_canon _ _ _ (cover0_A_3 c i arg1 harg1 arg2 harg2 arg3 harg3 arg4 harg4 x0)]
  have e : (kernelRun0_A c i arg1 harg1 arg2 harg2 arg3 harg3 arg4 harg4 x0).2.2.1
      = [⟨Rect.unit (s := S1x1x128) ![0, 0, 0] S1x1x128.size inb_S1x1x128_S1x1x128_0_0_0, k0_pay3 (kernelRun0_A.sl.v6764 c arg1 harg1 arg3 x0)⟩] := rfl
  rw [e, View.canon_unit_zero (by funext d; match d with | ⟨0, _⟩ => rfl | ⟨1, _⟩ => rfl | ⟨2, _⟩ => rfl),
    read_back c i arg1 harg1 arg2 harg2 arg3 harg3 arg4 harg4 x0]
  exact row_apply _ j

theorem idx_row (y : S1x1x128.Idx) : y = ix3 0 0 (y 2) := by
  funext d
  match d with
  | ⟨0, _⟩ => exact Fin.ext (Nat.lt_one_iff.1 (y 0).isLt)
  | ⟨1, _⟩ => exact Fin.ext (Nat.lt_one_iff.1 (y 1).isLt)
  | ⟨2, _⟩ => rfl

/-- The block's row of scales: at lane `j`, the scale of row `j`. -/
def scaleRow (x : Vec Ideal S128x14336 .bf16) : Vec Ideal S1x1x128 .f32 := fun y => scaleAt x (y 2).val

theorem out_3_row : out0_A_3 c i arg1 harg1 arg2 harg2 arg3 harg3 arg4 harg4 x0 = scaleRow x0 := funext fun y =>
  (congrArg (out0_A_3 c i arg1 harg1 arg2 harg2 arg3 harg3 arg4 harg4 x0) (idx_row y)).trans
    (out_3 c i arg1 harg1 arg2 harg2 arg3 harg3 arg4 harg4 x0 (y 2))

end Cert.QuantiseIdeal.Hand

end
-- ==== Proof.QI.Value.lean ====
/-
# The quantising call's results

The array the call reads is the tokens as rows; each point's three output blocks are the blocks of the codes, of the scales in all
lanes and of the scales as rows of 128; the blocks tile the three results.
-/
module

public import proofs.«01_k».proof.Proof.QI.Scales
public import proofs.«01_k».proof.Proof.QRI.Spec
public import Idealize.ShloMosaic.Lib.StableHlo.RunRead
public import Idealize.ShloMosaic.Lib.Pointwise

@[expose] public section

set_option maxRecDepth 16384

noncomputable section

namespace Cert.QuantiseIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.QuantiseIdeal Cert.QuantiseIdeal.Gen

open Cert.QuantiseReferenceIdeal.Hand (mag amax scaleOf codeOf entry scale code)

variable (m : (ℓ : Loc nD τ sig) → Buf (Elt Ideal) ℓ) (ρ : Dev nD → PrngReg)

/-- Device `c`'s tokens. -/
def tokens (c : Dev nD) : Vec Ideal S3x640x14336 .bf16 := m ((c : Thread nD τ).loc main_arg0)

theorem V_v0 (c : Dev nD) (i : Fin 1920) (k : Fin 14336) :
    (V m c main_v0 : Vec Ideal S1920x14336 .bf16) (ix2 i k) = entry (tokens m c) i k := by
  have e : (V m c main_v0 : Vec Ideal S1920x14336 .bf16) = shapeCast S1920x14336 (m ((c : Thread nD τ).loc main_arg0) : Vec Ideal S3x640x14336 .bf16) shapeCasts_S3x640x14336_S1920x14336 := by
    unfold V hostOps0; after_results; rfl
  rw [e]
  refine shapeCast_apply _ _ (ix2 i k) (ix3 ⟨i.val / 640, by omega⟩ ⟨i.val % 640, Nat.mod_lt _ (by decide)⟩ k) ?_
  rw [Shape.rowMajor_val_three, Shape.rowMajor_val_two]
  show (i.val / 640 * 640 + i.val % 640) * 14336 + k.val = i.val * 14336 + k.val
  rw [Nat.mul_comm (i.val / 640), Nat.div_add_mod]

/-! ## The blocks -/

theorem index_0 : ∀ t : Fin grid0.N, win0_0.index t 0 = t.val ∧ win0_0.index t 1 = 0 := by decide +kernel
theorem index_1 : ∀ t : Fin grid0.N, win0_1.index t 0 = t.val ∧ win0_1.index t 1 = 0 := by decide +kernel
theorem index_2 : ∀ t : Fin grid0.N, win0_2.index t 0 = t.val ∧ win0_2.index t 1 = 0 := by decide +kernel
theorem index_3 : ∀ t : Fin grid0.N, win0_3.index t 0 = t.val ∧ win0_3.index t 1 = 0 ∧ win0_3.index t 2 = 0 := by decide +kernel
theorem sizes_1 : ∀ t : Fin grid0.N, win0_1.xsize (grid0.coords t) 0 = 128 ∧ win0_1.xsize (grid0.coords t) 1 = 14336 := by decide +kernel
theorem sizes_2 : ∀ t : Fin grid0.N, win0_2.xsize (grid0.coords t) 0 = 128 ∧ win0_2.xsize (grid0.coords t) 1 = 128 := by decide +kernel
theorem sizes_3 : ∀ t : Fin grid0.N, win0_3.xsize (grid0.coords t) 0 = 1 ∧ win0_3.xsize (grid0.coords t) 1 = 1 ∧ win0_3.xsize (grid0.coords t) 2 = 128 := by decide +kernel

theorem N15 : cfg0.N = 15 := by decide +kernel
theorem lt15 (t : Fin cfg0.N) : t.val < 15 := Nat.lt_of_lt_of_eq t.isLt N15

/-- Row `a` of block `t`, among all rows. -/
def row (t : Fin cfg0.N) (a : Fin 128) : Fin 1920 := ⟨128 * t.val + a.val, by have := lt15 t; omega⟩

theorem iblk0_apply (c : Dev nD) (t : Fin cfg0.N) (a : Fin 128) (k : Fin 14336) :
    (iblk m c 0 t : Vec Ideal S128x14336 .bf16) (ix2 a k) = entry (tokens m c) (row t a) k := by
  refine Eq.trans ?_ (V_v0 m c (row t a) k)
  unfold iblk
  rw [View.read_apply]
  show V m c main_v0 _ = V m c main_v0 _
  congr 1
  funext d
  apply Fin.ext
  match d with
  | ⟨0, _⟩ => show win0_0.index t 0 * 128 + 1 * a.val = 128 * t.val + a.val; rw [(index_0 t).1]; omega
  | ⟨1, _⟩ => show win0_0.index t 1 * 14336 + 1 * k.val = k.val; rw [(index_0 t).2]; omega

theorem ent_block (c : Dev nD) (t : Fin cfg0.N) (a : Fin 128) (k : Fin 14336) :
    ent (iblk m c 0 t : Vec Ideal S128x14336 .bf16) a.val k.val = entry (tokens m c) (row t a) k := by
  unfold ent
  rw [dif_pos ⟨a.isLt, k.isLt⟩]
  exact iblk0_apply m c t a k

theorem scale_block (c : Dev nD) (t : Fin cfg0.N) (a : Fin 128) :
    scaleAt (iblk m c 0 t : Vec Ideal S128x14336 .bf16) a.val = scale (tokens m c) (row t a) := by
  unfold scaleAt scale
  exact congrArg (fun f => scaleOf (amax f)) (funext fun k => ent_block m c t a k)

/-! ## The results, as contents of their arrays -/

def codesArr (c : Dev nD) : Buf (Elt Ideal) ((c : Thread nD τ).loc main_v1_0) := fun y : S1920x14336.Idx => code (tokens m c) (y 0) (y 1)
def lanesArr (c : Dev nD) : Buf (Elt Ideal) ((c : Thread nD τ).loc main_v1_1) := fun y : S1920x128.Idx => (scale (tokens m c) (y 0) : EReal)
def rowsArr (c : Dev nD) : Buf (Elt Ideal) ((c : Thread nD τ).loc main_v1_2) := fun y : S15x1x128.Idx =>
  (scale (tokens m c) ⟨128 * (y 0).val + (y 2).val, by
    have h0 : (y 0).val < 15 := (y 0).isLt
    have h2 : (y 2).val < 128 := (y 2).isLt
    omega⟩ : EReal)

theorem flushed_1 (c : Dev nD) (t : Fin cfg0.N) : (dats m 0 c).flushed 1 t = (win0_1.blk t).view.read (Elt Ideal) (codesArr m c) := by
  show (cfg0.win 1).cut (grid0.coords t) ((dats m 0 c).after 1 t) = _
  rw [after0_1]
  unfold outsAt0
  rw [out_1]
  funext y
  rw [View.read_apply]
  show codes (iblk m c 0 t) y = code (tokens m c) _ _
  unfold codes code
  refine (congrArg₂ codeOf (ent_block m c t (y 0) (y 1)) (scale_block m c t (y 0))).trans ?_
  have e0 : row t (y 0) = ((win0_1.blk t).view.emb y : S1920x14336.Idx) 0 := Fin.ext (by
    show 128 * t.val + (y 0).val = win0_1.index t 0 * 128 + 1 * (y 0).val; rw [(index_1 t).1]; omega)
  have e1 : (y 1 : Fin 14336) = ((win0_1.blk t).view.emb y : S1920x14336.Idx) 1 := Fin.ext (by
    show (y 1).val = win0_1.index t 1 * 14336 + 1 * (y 1).val; rw [(index_1 t).2]; omega)
  exact congrArg₂ (fun i k => codeOf (entry (tokens m c) i k) (scale (tokens m c) i)) e0 e1

theorem flushed_2 (c : Dev nD) (t : Fin cfg0.N) : (dats m 0 c).flushed 2 t = (win0_2.blk t).view.read (Elt Ideal) (lanesArr m c) := by
  show (cfg0.win 2).cut (grid0.coords t) ((dats m 0 c).after 2 t) = _
  rw [after0_2]
  unfold outsAt0
  rw [out_2]
  funext y
  rw [View.read_apply]
  refine (scale_block m c t (y 0)).trans ?_
  refine congrArg (scale (tokens m c)) (Fin.ext ?_)
  show 128 * t.val + (y 0).val = win0_2.index t 0 * 128 + 1 * (y 0).val; rw [(index_2 t).1]; omega

theorem rows_eq (c : Dev nD) (t : Fin cfg0.N) (y : S1x1x128.Idx) :
    scaleRow (iblk m c 0 t : Vec Ideal S128x14336 .bf16) y = rowsArr m c ((win0_3.blk t).view.emb y) := by
  refine (scale_block m c t (y 2)).trans ?_
  unfold rowsArr
  refine congrArg (scale (tokens m c)) (Fin.ext ?_)
  have h0 : (y 0).val < 1 := (y 0).isLt
  show 128 * t.val + (y 2).val = 128 * (win0_3.index t 0 * 1 + 1 * (y 0).val) + (win0_3.index t 2 * 128 + 1 * (y 2).val)
  rw [(index_3 t).1, (index_3 t).2.2]; omega

theorem flushed_3 (c : Dev nD) (t : Fin cfg0.N) : (dats m 0 c).flushed 3 t = (win0_3.blk t).view.read (Elt Ideal) (rowsArr m c) := by
  show (cfg0.win 3).cut (grid0.coords t) ((dats m 0 c).after 3 t) = _
  rw [after0_3]
  unfold outsAt0
  rw [out_3_row]
  funext y
  rw [View.read_apply]
  exact rows_eq m c t y

/-! ## The blocks tile the results -/

theorem final_1 (c : Dev nD) : (dats m 0 c).arrAt 1 cfg0.N = codesArr m c :=
  (dats m 0 c).arrAt_eq_of_cover 1 (codesArr m c) (fun t _ => flushed_1 m c t) fun i => by
    have h0 : (i 0 : Nat) < 1920 := (i 0).isLt
    have h1 : (i 1 : Nat) < 14336 := (i 1).isLt
    have hN : cfg0.N = 15 := N15
    let t : Fin cfg0.N := ⟨(i 0 : Nat) / 128, by omega⟩
    refine ⟨t, flush0_1 t, ?_⟩
    show i ∈ ((View.whole main_v1_0).slice (win0_1.rect t)).set
    rw [View.set_slice_whole, Rect.mem_set_unit]
    intro a
    match a with
    | ⟨0, _⟩ => show win0_1.index t 0 * 128 ≤ (i 0 : Nat) ∧ (i 0 : Nat) < win0_1.index t 0 * 128 + win0_1.xsize (grid0.coords t) 0
                rw [(index_1 t).1, (sizes_1 t).1]; show (i 0 : Nat) / 128 * 128 ≤ _ ∧ _ < (i 0 : Nat) / 128 * 128 + 128; omega
    | ⟨1, _⟩ => show win0_1.index t 1 * 14336 ≤ (i 1 : Nat) ∧ (i 1 : Nat) < win0_1.index t 1 * 14336 + win0_1.xsize (grid0.coords t) 1
                rw [(index_1 t).2, (sizes_1 t).2]; omega

theorem final_2 (c : Dev nD) : (dats m 0 c).arrAt 2 cfg0.N = lanesArr m c :=
  (dats m 0 c).arrAt_eq_of_cover 2 (lanesArr m c) (fun t _ => flushed_2 m c t) fun i => by
    have h0 : (i 0 : Nat) < 1920 := (i 0).isLt
    have h1 : (i 1 : Nat) < 128 := (i 1).isLt
    have hN : cfg0.N = 15 := N15
    let t : Fin cfg0.N := ⟨(i 0 : Nat) / 128, by omega⟩
    refine ⟨t, flush0_2 t, ?_⟩
    show i ∈ ((View.whole main_v1_1).slice (win0_2.rect t)).set
    rw [View.set_slice_whole, Rect.mem_set_unit]
    intro a
    match a with
    | ⟨0, _⟩ => show win0_2.index t 0 * 128 ≤ (i 0 : Nat) ∧ (i 0 : Nat) < win0_2.index t 0 * 128 + win0_2.xsize (grid0.coords t) 0
                rw [(index_2 t).1, (sizes_2 t).1]; show (i 0 : Nat) / 128 * 128 ≤ _ ∧ _ < (i 0 : Nat) / 128 * 128 + 128; omega
    | ⟨1, _⟩ => show win0_2.index t 1 * 128 ≤ (i 1 : Nat) ∧ (i 1 : Nat) < win0_2.index t 1 * 128 + win0_2.xsize (grid0.coords t) 1
                rw [(index_2 t).2, (sizes_2 t).2]; omega

theorem final_3 (c : Dev nD) : (dats m 0 c).arrAt 3 cfg0.N = rowsArr m c :=
  (dats m 0 c).arrAt_eq_of_cover 3 (rowsArr m c) (fun t _ => flushed_3 m c t) fun i => by
    have h0 : (i 0 : Nat) < 15 := (i 0).isLt
    have h1 : (i 1 : Nat) < 1 := (i 1).isLt
    have h2 : (i 2 : Nat) < 128 := (i 2).isLt
    have hN : cfg0.N = 15 := N15
    let t : Fin cfg0.N := ⟨(i 0 : Nat), by omega⟩
    refine ⟨t, flush0_3 t, ?_⟩
    show i ∈ ((View.whole main_v1_2).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + win0_3.xsize (grid0.coords t) 0
                rw [(index_3 t).1, (sizes_3 t).1]; show (i 0 : Nat) * 1 ≤ _ ∧ _ < (i 0 : Nat) * 1 + 1; omega
    | ⟨1, _⟩ => show win0_3.index t 1 * 1 ≤ (i 1 : Nat) ∧ (i 1 : Nat) < win0_3.index t 1 * 1 + win0_3.xsize (grid0.coords t) 1
                rw [(index_3 t).2.1, (sizes_3 t).2.1]; omega
    | ⟨2, _⟩ => show win0_3.index t 2 * 128 ≤ (i 2 : Nat) ∧ (i 2 : Nat) < win0_3.index t 2 * 128 + win0_3.xsize (grid0.coords t) 2
                rw [(index_3 t).2.2, (sizes_3 t).2.2]; omega

/-- The run: the three results at their functions of the tokens, the tokens unchanged. -/
theorem run : θ_run defs (onTc (τ := τ) (main (F := Ideal))) ⟨m, fun _ => 0, ρ⟩ (fun r => ∀ c : Dev nD,
      r.2.mem ((c.tc : Thread nD τ).loc main_v1_0) = codesArr m c
      ∧ r.2.mem ((c.tc : Thread nD τ).loc main_v1_1) = lanesArr m c
      ∧ r.2.mem ((c.tc : Thread nD τ).loc main_v1_2) = rowsArr m c
      ∧ r.2.mem ((c.tc : Thread nD τ).loc main_arg0) = m ((c.tc : Thread nD τ).loc main_arg0)) :=
  (θ_run defs _ _).mono (fun r h c => ⟨((h.1 c).1 1).trans (final_1 m c), ((h.1 c).1 2).trans (final_2 m c), ((h.1 c).1 3).trans (final_3 m c), h.2 c⟩)
    (θ_run_and (run_main m ρ) (unchanged m ρ))

end Cert.QuantiseIdeal.Hand

end
-- ==== Proof.QRI.Host.lean ====
/-
# The quantiser's reference: its host lines

The reference finds each row's largest magnitude, the scale from it, and every entry over its row's scale, rounded and clipped; its
call then turns those into integers, and the last lines lay the scales out. Here each of those steps is one function of the tokens,
read at an index.
-/
module

public import proofs.«01_k».proof.Proof.Gen.QuantiseReferenceIdeal.Frame
public import proofs.«01_k».proof.Proof.QRI.Spec
public import Idealize.ShloMosaic.Lib.KernelVsHost
public import Idealize.ShloMosaic.Lib.StableHlo.RunRead
public import Idealize.ShloMosaic.Lib.Pointwise

@[expose] public section

set_option maxRecDepth 16384

noncomputable section

namespace Cert.QuantiseReferenceIdeal.Hand

open Idealize.ShloMosaic Idealize.ShloMosaic.TcCoe Idealize.ShloMosaic.Tactic
open Idealize.SL Idealize.SL.Sem
open Cert.QuantiseReferenceIdeal Cert.QuantiseReferenceIdeal.Gen

/-- The tokens as rows of f32. -/
def rows (X : FVec Ideal S3x640x14336 .bf16) : FVec Ideal S1920x14336 .f32 :=
  extf .f32 (shapeCast S1920x14336 X shapeCasts_S3x640x14336_S1920x14336) bitsLt_bf16_f32

/-- Each row's largest magnitude. -/
def amaxes (R : FVec Ideal S1920x14336 .f32) : FVec Ideal S1920 .f32 :=
  Host.reduce FloatOps.maximumf (Host.absf R) (constant S_ .f32 0xFF800000#32) reducesTo_S1920x14336_S1920_d1 h_S_

/-- The scales from those. -/
def scales (A : FVec Ideal S1920 .f32) : FVec Ideal S1920 .f32 :=
  select (cmpf .ogt A (broadcastInDim S1920 ![] bcast_S_S1920 (constant S_ .f32 0x00000000#32)))
    (Host.divf A (broadcastInDim S1920 ![] bcast_S_S1920 (constant S_ .f32 0x42FE0000#32)))
    (broadcastInDim S1920 ![] bcast_S_S1920 (constant S_ .f32 0x3F800000#32))

/-- The entries over their rows' scales, rounded and clipped. -/
def clipped (R : FVec Ideal S1920x14336 .f32) (S : FVec Ideal S1920 .f32) : FVec Ideal S1920x14336 .f32 :=
  minimumf (broadcastInDim S1920x14336 ![] bcast_S_S1920x14336 (constant S_ .f32 0x42FE0000#32))
    (maximumf (broadcastInDim S1920x14336 ![] bcast_S_S1920x14336 (constant S_ .f32 0xC2FE0000#32))
      (Host.roundeven (Host.divf R (broadcastInDim S1920x14336 ![0, 1] bcast_S1920x1_S1920x14336_0_1 (broadcastInDim S1920x1 ![0] bcast_S1920_S1920x1_0 S)))))

variable (m : (ℓ : Loc nD τ sig) → Buf (Elt Ideal) ℓ)

/-- Device `c`'s tokens. -/
def tokens (c : Dev nD) : FVec Ideal S3x640x14336 .bf16 := m ((c : Thread nD τ).loc main_arg0)

/-- Two stretches of lines one after the other. -/
theorem after_append (a b : List (HloOp τ sig (Elt Ideal))) (W : Valuation τ sig (Elt Ideal)) :
    StableHlo.after (a ++ b) W = StableHlo.after b (StableHlo.after a W) := by
  induction a generalizing W with
  | nil => rfl
  | cons op l ih => exact ih _

/-! ## Each stretch -/

section Stretches

variable (W : Valuation τ sig (Elt Ideal))

theorem s0_v1 : StableHlo.after hostOps0 W (Proc.devRef .tc main_v1) = rows (W (Proc.devRef .tc main_arg0)) := by
  unfold hostOps0 rows; after_results; rfl
theorem s0_v5 : StableHlo.after hostOps0 W (Proc.devRef .tc main_v5)
    = cmpf .ogt (amaxes (rows (W (Proc.devRef .tc main_arg0)))) (broadcastInDim S1920 ![] bcast_S_S1920 (constant S_ .f32 0x00000000#32) : FVec Ideal S1920 .f32) := by
  unfold hostOps0 amaxes rows; after_results; rfl
theorem s0_v7 : StableHlo.after hostOps0 W (Proc.devRef .tc main_v7)
    = Host.divf (amaxes (rows (W (Proc.devRef .tc main_arg0)))) (broadcastInDim S1920 ![] bcast_S_S1920 (constant S_ .f32 0x42FE0000#32) : FVec Ideal S1920 .f32) := by
  unfold hostOps0 amaxes rows; after_results; rfl
theorem s0_cst_2 : StableHlo.after hostOps0 W (Proc.devRef .tc main_cst_2) = (constant S_ .f32 0x3F800000#32 : FVec Ideal S_ .f32) := by
  unfold hostOps0; after_results
theorem s1_v8 : StableHlo.after hostOps0_1 W (Proc.devRef .tc main_v8)
    = (select (W (Proc.devRef .tc main_v5) : IVec S1920 1) (W (Proc.devRef .tc main_v7) : FVec Ideal S1920 .f32)
        (broadcastInDim S1920 ![] bcast_S_S1920 (W (Proc.devRef .tc main_cst_2) : FVec Ideal S_ .f32)) : FVec Ideal S1920 .f32) := by
  unfold hostOps0_1; after_results; rfl
theorem s1_v1 : StableHlo.after hostOps0_1 W (Proc.devRef .tc main_v1) = W (Proc.devRef .tc main_v1) := by
  unfold hostOps0_1; after_results
theorem s2_v8 : StableHlo.after hostOps0_2 W (Proc.devRef .tc main_v8) = W (Proc.devRef .tc main_v8) := by
  unfold hostOps0_2; after_results
theorem s2_v11 : StableHlo.after hostOps0_2 W (Proc.devRef .tc main_v11)
    = (Host.divf (W (Proc.devRef .tc main_v1)) (broadcastInDim S1920x14336 ![0, 1] bcast_S1920x1_S1920x14336_0_1 (broadcastInDim S1920x1 ![0] bcast_S1920_S1920x1_0 (W (Proc.devRef .tc main_v8)))) : FVec Ideal S1920x14336 .f32) := by
  unfold hostOps0_2; after_results
theorem s3_v8 : StableHlo.after hostOps0_3 W (Proc.devRef .tc main_v8) = W (Proc.devRef .tc main_v8) := by
  unfold hostOps0_3; after_results
theorem s3_v12 : StableHlo.after hostOps0_3 W (Proc.devRef .tc main_v12) = (Host.roundeven (W (Proc.devRef .tc main_v11)) : FVec Ideal S1920x14336 .f32) := by
  unfold hostOps0_3; after_results; rfl
theorem s4_v8 : StableHlo.after hostOps0_4 W (Proc.devRef .tc main_v8) = W (Proc.devRef .tc main_v8) := by
  unfold hostOps0_4; after_results
theorem s4_v12 : StableHlo.after hostOps0_4 W (Proc.devRef .tc main_v12) = W (Proc.devRef .tc main_v12) := by
  unfold hostOps0_4; after_results
theorem s4_lo : StableHlo.after hostOps0_4 W (Proc.devRef .tc main_cst_3) = (constant S_ .f32 0xC2FE0000#32 : FVec Ideal S_ .f32) := by
  unfold hostOps0_4; after_results
theorem s4_hi : StableHlo.after hostOps0_4 W (Proc.devRef .tc main_cst_4) = (constant S_ .f32 0x42FE0000#32 : FVec Ideal S_ .f32) := by
  unfold hostOps0_4; after_results
theorem s5_v8 : StableHlo.after hostOps0_5 W (Proc.devRef .tc main_v8) = W (Proc.devRef .tc main_v8) := by
  unfold hostOps0_5; after_results
theorem s5_v13 : StableHlo.after hostOps0_5 W (Proc.devRef .tc main_v13)
    = (minimumf (broadcastInDim S1920x14336 ![] bcast_S_S1920x14336 (W (Proc.devRef .tc main_cst_4) : FVec Ideal S_ .f32))
        (maximumf (broadcastInDim S1920x14336 ![] bcast_S_S1920x14336 (W (Proc.devRef .tc main_cst_3) : FVec Ideal S_ .f32)) (W (Proc.devRef .tc main_v12)))
        : FVec Ideal S1920x14336 .f32) := by
  unfold hostOps0_5; after_results; rfl

end Stretches

/-- The lines before the call, stretch by stretch. -/
theorem V0_eq (c : Dev nD) : V0 m c = StableHlo.after hostOps0_5 (StableHlo.after hostOps0_4 (StableHlo.after hostOps0_3
    (StableHlo.after hostOps0_2 (StableHlo.after hostOps0_1 (StableHlo.after hostOps0 fun b => m (c, b)))))) := by
  unfold V0
  rw [List.flatten_cons, List.flatten_cons, List.flatten_cons, List.flatten_cons, List.flatten_cons, List.flatten_cons, List.flatten_nil, List.append_nil,
    after_append, after_append, after_append, after_append, after_append]

theorem V_v8 (c : Dev nD) : V0 m c (Proc.devRef .tc main_v8) = scales (amaxes (rows (tokens m c))) := by
  rw [V0_eq, s5_v8, s4_v8, s3_v8, s2_v8, s1_v8, s0_v5, s0_v7, s0_cst_2]
  rfl

theorem V_v13 (c : Dev nD) : V0 m c (Proc.devRef .tc main_v13) = clipped (rows (tokens m c)) (scales (amaxes (rows (tokens m c)))) := by
  rw [V0_eq, s5_v13, s4_lo, s4_hi, s4_v12, s3_v12, s2_v11, s1_v1, s1_v8, s0_v1, s0_v5, s0_v7, s0_cst_2]
  rfl

/-! ## At an index -/

theorem rows_apply (X : FVec Ideal S3x640x14336 .bf16) (i : Fin 1920) (k : Fin 14336) : rows X (ix2 i k) = entry X i k := by
  show (shapeCast S1920x14336 X shapeCasts_S3x640x14336_S1920x14336 : FVec Ideal S1920x14336 .bf16) (ix2 i k) = _
  refine shapeCast_apply _ _ (ix2 i k) (ix3 ⟨i.val / 640, by omega⟩ ⟨i.val % 640, Nat.mod_lt _ (by decide)⟩ k) ?_
  rw [Shape.rowMajor_val_three, Shape.rowMajor_val_two]
  show (i.val / 640 * 640 + i.val % 640) * 14336 + k.val = i.val * 14336 + k.val
  rw [Nat.mul_comm (i.val / 640), Nat.div_add_mod]

theorem reduces_rows : S1920x14336.Reduces [1] S1920 := by decide +kernel

theorem neg_inf : (FloatOps.ofBits (F := Ideal) .f32 0xFF800000#32 : EReal) = ⊥ := by
  simp [Ideal.ofBits, Ideal.ieee]

theorem amaxes_apply (R : FVec Ideal S1920x14336 .f32) (i : Fin 1920) :
    amaxes R (ix1 i) = amax fun k => (R (ix2 i k) : EReal) := by
  unfold amaxes
  refine (congrFun (hostReduce_maximumf_eq_multiReduction (Host.absf R) _ _ _ reduces_rows (.inl rfl) rfl) (ix1 i)).trans ?_
  refine (Ideal.multiReduction_maximumf_single (Host.absf R) _ _ _ _ _).trans ?_
  have e : ∀ l : Fin 14336, reduces_rows.lift (ix1 i) l = (ix2 i l : S1920x14336.Idx) := fun l => by
    funext d; match d with
    | ⟨0, _⟩ => rfl
    | ⟨1, _⟩ => rfl
  refine (congrArg₂ (fun (b : EReal) (g : Fin 14336 → EReal) => (Finset.univ : Finset (Fin 14336)).fold max b g) neg_inf
    (funext fun l => congrArg (Host.absf R) (e l))).trans ?_
  rfl

theorem scales_apply (A : FVec Ideal S1920 .f32) (i : Fin 1920) : scales A (ix1 i) = scaleOf (A (ix1 i)) := by
  unfold scales scaleOf
  pointwise

theorem scales_rows (X : FVec Ideal S3x640x14336 .bf16) (i : Fin 1920) : scales (amaxes (rows X)) (ix1 i) = scale X i := by
  rw [scales_apply, amaxes_apply]
  exact congrArg (fun f => scaleOf (amax f)) (funext fun k => rows_apply X i k)

theorem code_apply (R : FVec Ideal S1920x14336 .f32) (S : FVec Ideal S1920 .f32) (i : Fin 1920) (k : Fin 14336) :
    (fptosi 8 (clipped R S) : IVec S1920x14336 8) (ix2 i k) = codeOf (R (ix2 i k)) (S (ix1 i)) := by
  unfold clipped codeOf
  pointwise

theorem clipped_code (X : FVec Ideal S3x640x14336 .bf16) (i : Fin 1920) (k : Fin 14336) :
    (fptosi 8 (clipped (rows X) (scales (amaxes (rows X)))) : IVec S1920x14336 8) (ix2 i k) = code X i k := by
  unfold code
  rw [code_apply, rows_apply, scales_rows]

end Cert.QuantiseReferenceIdeal.Hand

end
-- ==== Proof.QRI.Value.lean ====
/-
# The quantiser's reference: its results

The reference's call has one block, the whole array, and leaves the integers of what it is given; the lines after it lay each row's
scale out over 128 lanes and as 15 rows of 128. So its three results are the codes and the scales of the tokens.
-/
module

public import proofs.«01_k».proof.Proof.QRI.Host
public import Idealize.ShloMosaic.Lib.Pipeline.Value
public import Idealize.ShloMosaic.Lib.Claim

@[expose] public section

set_option maxRecDepth 16384

noncomputable section

namespace Cert.QuantiseReferenceIdeal.Hand

open Idealize.ShloMosaic Idealize.ShloMosaic.TcCoe Idealize.ShloMosaic.Tactic
open Idealize.SL Idealize.SL.Sem
open Idealize.ShloMosaic.Pipeline (Dat Cfg Window)
open Cert.QuantiseReferenceIdeal Cert.QuantiseReferenceIdeal.Gen

variable (m : (ℓ : Loc nD τ sig) → Buf (Elt Ideal) ℓ) (ρ : Dev nD → PrngReg)

theorem hz2 : (![0, 0] : Fin 2 → Nat) = fun _ => 0 := funext fun a => by fin_cases a <;> rfl

/-- The integers of what the call is given. -/
def ints (c : Dev nD) : Buf (Elt Ideal) ((c : Thread nD τ).loc main_v14) :=
  fptosi (F := Ideal) (s := S1920x14336) (φ := .f32) 8 (V m c main_v13)

/-- Block by block, the integers of an array are the integers of its blocks. -/
theorem ints_block (A : FVec Ideal S1920x14336 .f32) (t : Fin cfg0.N) :
    (cfg0.win 1).cut (grid0.coords t) (fptosi (F := Ideal) (s := S1920x14336) (φ := .f32) 8 ((win0_0.blk t).view.read (Elt Ideal) A))
      = (win0_1.blk t).view.read (Elt Ideal) (fptosi (F := Ideal) (s := S1920x14336) (φ := .f32) 8 A) := rfl

theorem flushed_1 (c : Dev nD) (t : Fin cfg0.N) :
    (dats m 0 c).flushed 1 t = (win0_1.blk t).view.read (Elt Ideal) (ints m c) := by
  show (cfg0.win 1).cut (grid0.coords t) ((dats m 0 c).after 1 t) = _
  rw [after0_1]
  unfold out0_1 k0_pay1
  rw [View.canon_unit_zero hz2, View.ld_unit_zero hz2, shapeCast_self]
  exact ints_block (V m c main_v13) t

theorem pos0 : 0 < cfg0.N := by have : cfg0.N = 1 := N_0; omega

theorem final_1 (c : Dev nD) : (dats m 0 c).arrAt 1 cfg0.N = ints m c :=
  (dats m 0 c).arrAt_eq_of_cover 1 (ints m c) (fun t _ => flushed_1 m c t) fun i => ⟨⟨0, pos0⟩, flush0_1 _, by
    show i ∈ ((View.whole main_v14).slice (win0_1.rect ⟨0, pos0⟩)).set
    rw [View.set_slice_whole, Rect.mem_set_unit]
    intro a
    have hs : ∀ a : Fin S1920x14336.rank, win0_1.kind.off (win0_1.index ⟨0, pos0⟩ a) (win0_1.size a) = 0
        ∧ win0_1.xsize (grid0.coords ⟨0, pos0⟩) a = S1920x14336.size a := by decide +kernel
    obtain ⟨h0, h1⟩ := hs a
    refine ⟨Nat.le_trans (Nat.le_of_eq h0) (Nat.zero_le _), Nat.lt_of_lt_of_eq (i a).isLt ?_⟩
    exact ((congrArg₂ (· + ·) h0 h1).trans (Nat.zero_add _)).symm⟩

/-! ## The lines after the call -/

theorem t_v16 (W : Valuation τ sig (Elt Ideal)) : StableHlo.after hostOps1 W (Proc.devRef .tc main_v16)
    = (broadcastInDim S1920x128 ![0, 1] bcast_S1920x1_S1920x128_0_1 (broadcastInDim S1920x1 ![0] bcast_S1920_S1920x1_0 (W (Proc.devRef .tc main_v8))) : FVec Ideal S1920x128 .f32) := by
  unfold hostOps1; after_results
theorem t_v17 (W : Valuation τ sig (Elt Ideal)) : StableHlo.after hostOps1 W (Proc.devRef .tc main_v17)
    = (shapeCast S15x1x128 (W (Proc.devRef .tc main_v8) : FVec Ideal S1920 .f32) shapeCasts_S1920_S15x1x128 : FVec Ideal S15x1x128 .f32) := by
  unfold hostOps1; after_results; rfl

/-- What the lines after the call find. -/
abbrev mid (c : Dev nD) : Valuation τ sig (Elt Ideal) :=
  Pipeline.withArrays spec0 c (V0 m c) fun w => (dats m 0 c).arrAt w cfg0.N

theorem mid_v8 (c : Dev nD) : mid m c (Proc.devRef .tc main_v8) = scales (amaxes (rows (tokens m c))) :=
  (Pipeline.withArrays_of_ne _ c (V0 m c) _ main_v8 (by exact (by decide : ∀ w, Pipeline.arrRef spec0 w ≠ main_v8))).trans (V_v8 m c)

theorem lanes_apply (S : FVec Ideal S1920 .f32) (i : Fin 1920) (l : Fin 128) :
    (broadcastInDim S1920x128 ![0, 1] bcast_S1920x1_S1920x128_0_1 (broadcastInDim S1920x1 ![0] bcast_S1920_S1920x1_0 S) : FVec Ideal S1920x128 .f32) (ix2 i l) = S (ix1 i) := by
  pointwise

theorem blocks_apply (S : FVec Ideal S1920 .f32) (b : Fin 15) (z : Fin 1) (l : Fin 128) :
    (shapeCast S15x1x128 S shapeCasts_S1920_S15x1x128 : FVec Ideal S15x1x128 .f32) (ix3 b z l) = S (ix1 ⟨128 * b.val + l.val, by omega⟩) := by
  refine shapeCast_apply _ _ (ix3 b z l) (ix1 ⟨128 * b.val + l.val, by omega⟩) ?_
  rw [Shape.rowMajor_val_three, Shape.rowMajor_val_one]
  show 128 * b.val + l.val = (b.val * 1 + z.val) * 128 + l.val
  omega

/-- The codes at the end, at an index. -/
theorem final_codes (c : Dev nD) (i : Fin 1920) (k : Fin 14336) :
    ((dats m 0 c).arrAt 1 cfg0.N : IVec S1920x14336 8) (ix2 i k) = code (tokens m c) i k := by
  rw [final_1]
  unfold ints
  rw [show V m c main_v13 = clipped (rows (tokens m c)) (scales (amaxes (rows (tokens m c)))) from V_v13 m c]
  exact clipped_code (tokens m c) i k

/-- The scales over the lanes, at an index. -/
theorem final_lanes (c : Dev nD) (i : Fin 1920) (l : Fin 128) :
    (Pipeline.afterTail₀ cfgs (dats m) 0 (V0 m) [hostOps1] c main_v16 : FVec Ideal S1920x128 .f32) (ix2 i l) = scale (tokens m c) i := by
  have e : (Pipeline.afterTail₀ cfgs (dats m) 0 (V0 m) [hostOps1] c main_v16 : FVec Ideal S1920x128 .f32)
      = broadcastInDim S1920x128 ![0, 1] bcast_S1920x1_S1920x128_0_1 (broadcastInDim S1920x1 ![0] bcast_S1920_S1920x1_0 (scales (amaxes (rows (tokens m c))))) := by
    unfold Pipeline.afterTail₀
    refine (t_v16 (mid m c)).trans ?_
    rw [mid_v8]
  exact (congrFun e (ix2 i l)).trans ((lanes_apply _ i l).trans (scales_rows _ i))

/-- The scales in 15 rows, at an index. -/
theorem final_blocks (c : Dev nD) (b : Fin 15) (z : Fin 1) (l : Fin 128) :
    (Pipeline.afterTail₀ cfgs (dats m) 0 (V0 m) [hostOps1] c main_v17 : FVec Ideal S15x1x128 .f32) (ix3 b z l)
      = scale (tokens m c) ⟨128 * b.val + l.val, by omega⟩ := by
  have e : (Pipeline.afterTail₀ cfgs (dats m) 0 (V0 m) [hostOps1] c main_v17 : FVec Ideal S15x1x128 .f32)
      = shapeCast S15x1x128 (scales (amaxes (rows (tokens m c)))) shapeCasts_S1920_S15x1x128 := by
    unfold Pipeline.afterTail₀
    refine (t_v17 (mid m c)).trans ?_
    rw [mid_v8]
  exact (congrFun e (ix3 b z l)).trans ((blocks_apply _ b z l).trans (scales_rows _ _))

/-- The run: the three results at their functions of the tokens, the tokens unchanged. -/
theorem run : θ_run defs (onTc (τ := τ) (main (F := Ideal))) ⟨m, fun _ => 0, ρ⟩ (fun r => ∀ c : Dev nD,
      (∀ (i : Fin 1920) (k : Fin 14336), (r.2.mem ((c.tc : Thread nD τ).loc main_v14) : IVec S1920x14336 8) (ix2 i k) = code (tokens m c) i k)
      ∧ (∀ (i : Fin 1920) (l : Fin 128), (r.2.mem ((c.tc : Thread nD τ).loc main_v16) : FVec Ideal S1920x128 .f32) (ix2 i l) = scale (tokens m c) i)
      ∧ (∀ (b : Fin 15) (z : Fin 1) (l : Fin 128), (r.2.mem ((c.tc : Thread nD τ).loc main_v17) : FVec Ideal S15x1x128 .f32) (ix3 b z l)
          = scale (tokens m c) ⟨128 * b.val + l.val, by omega⟩)
      ∧ r.2.mem ((c.tc : Thread nD τ).loc main_arg0) = m ((c.tc : Thread nD τ).loc main_arg0)) :=
  (θ_run defs _ _).mono (fun r h c => ⟨
    fun i k => (congrFun ((h.1 c).1 1) (ix2 i k)).trans (final_codes m c i k),
    fun i l => (congrFun ((h.1 c).2 main_v16 (Pipeline.mem_restRefs_of main_v16 (by decide) (by decide))) (ix2 i l)).trans (final_lanes m c i l),
    fun b z l => (congrFun ((h.1 c).2 main_v17 (Pipeline.mem_restRefs_of main_v17 (by decide) (by decide))) (ix3 b z l)).trans (final_blocks m c b z l),
    h.2 c⟩) (θ_run_and (run_main m ρ) (unchanged m ρ))

end Cert.QuantiseReferenceIdeal.Hand

end
-- ==== Proof.QClaims.lean ====
/-
# The quantiser's claim

Over the reals the quantiser and its reference leave equal codes and scales: both are the functions `code` and `scale` of the tokens.
-/
module

public import proofs.«01_k».proof.Defs
public import proofs.«01_k».proof.Proof.QI.Value
public import proofs.«01_k».proof.Proof.QRI.Value

@[expose] public section

set_option maxRecDepth 16384

noncomputable section

namespace Cert.Proof

open Idealize.ShloMosaic Idealize.ShloMosaic.TcCoe Idealize.SL.Sem

/-- From the same tokens, the quantiser's three results and its reference's are the same functions of them. -/
theorem algebraicQuantise : Cert.algebraic_QuantiseIdeal_QuantiseReferenceIdeal := by
  intro m ρ m' ρ' _ hagree
  refine ⟨fun c => Cert.QuantiseIdeal.Hand.codesArr m c, fun c => Cert.QuantiseIdeal.Hand.lanesArr m c, fun c => Cert.QuantiseIdeal.Hand.rowsArr m c,
    Cert.QuantiseIdeal.Hand.run m ρ, ?_⟩
  refine (θ_run Cert.QuantiseReferenceIdeal.defs _ _).mono (fun r h c => ⟨?_, ?_, ?_, (h c).2.2.2⟩) (Cert.QuantiseReferenceIdeal.Hand.run m' ρ')
  · have e : Cert.QuantiseReferenceIdeal.Hand.tokens m' c = Cert.QuantiseIdeal.Hand.tokens m c := hagree c
    funext y
    have ey : (y : Cert.QuantiseReferenceIdeal.S1920x14336.Idx) = ix2 (y 0) (y 1) := eq_ix2 y
    exact (congrArg (r.2.mem ((c.tc : Thread Cert.QuantiseReferenceIdeal.nD Cert.QuantiseReferenceIdeal.τ).loc Cert.QuantiseReferenceIdeal.main_v14)) ey).trans
      (((h c).1 (y 0) (y 1)).trans (congrArg (fun X => Cert.QuantiseReferenceIdeal.Hand.code X (y 0) (y 1)) e))
  · have e : Cert.QuantiseReferenceIdeal.Hand.tokens m' c = Cert.QuantiseIdeal.Hand.tokens m c := hagree c
    funext y
    have ey : (y : Cert.QuantiseReferenceIdeal.S1920x128.Idx) = ix2 (y 0) (y 1) := eq_ix2 y
    exact (congrArg (r.2.mem ((c.tc : Thread Cert.QuantiseReferenceIdeal.nD Cert.QuantiseReferenceIdeal.τ).loc Cert.QuantiseReferenceIdeal.main_v16)) ey).trans
      (((h c).2.1 (y 0) (y 1)).trans (congrArg (fun X => Cert.QuantiseReferenceIdeal.Hand.scale X (y 0)) e))
  · have e : Cert.QuantiseReferenceIdeal.Hand.tokens m' c = Cert.QuantiseIdeal.Hand.tokens m c := hagree c
    funext y
    have ey : (y : Cert.QuantiseReferenceIdeal.S15x1x128.Idx) = ix3 (y 0) (y 1) (y 2) := eq_ix3 y
    exact (congrArg (r.2.mem ((c.tc : Thread Cert.QuantiseReferenceIdeal.nD Cert.QuantiseReferenceIdeal.τ).loc Cert.QuantiseReferenceIdeal.main_v17)) ey).trans
      (((h c).2.2.1 (y 0) (y 1) (y 2)).trans (congrArg (fun X => Cert.QuantiseReferenceIdeal.Hand.scale X _) e))

end Cert.Proof

end
-- ==== Proof.lean ====
/-
# The certificate

The matmul, the quantiser, their idealizations and their references each run to the end from any memory and leave their arguments unchanged; the
idealizations keep what the kernels say; and over the reals each idealization and its reference leave equal results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Quantise.Frame
public import proofs.«01_k».proof.Proof.Gen.QuantiseIdeal.Frame
public import proofs.«01_k».proof.Proof.Gen.QuantiseReferenceIdeal.Frame
public import proofs.«01_k».proof.Proof.Claims
public import proofs.«01_k».proof.Proof.QClaims

@[expose] public section

namespace Cert.Proof

theorem claim : Cert.Claim :=
  ⟨Cert.Kernel.Gen.facts, Cert.KernelIdeal.Gen.facts, Cert.ReferenceIdeal.Gen.facts,
    Cert.Quantise.Gen.facts, Cert.QuantiseIdeal.Gen.facts, Cert.QuantiseReferenceIdeal.Gen.facts,
    fun m ρ _ => Cert.Kernel.Hand.frame m ρ, fun m ρ _ => Cert.KernelIdeal.Hand.frame m ρ, fun m ρ _ => Cert.ReferenceIdeal.Gen.frame m ρ,
    fun m ρ _ => Cert.Quantise.Gen.frame m ρ, fun m ρ _ => Cert.QuantiseIdeal.Gen.frame m ρ, fun m ρ _ => Cert.QuantiseReferenceIdeal.Gen.frame m ρ,
    preserves, algebraic, trivial, algebraicQuantise⟩

end Cert.Proof
